-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x12x2048x64 : Shape := ⟨4, ![1, 12, 2048, 64]⟩
abbrev S1x12x2048x2048 : Shape := ⟨4, ![1, 12, 2048, 2048]⟩
abbrev S12x2048x64 : Shape := ⟨3, ![12, 2048, 64]⟩
abbrev S2048x12x64 : Shape := ⟨3, ![2048, 12, 64]⟩
abbrev S2048x12x128 : Shape := ⟨3, ![2048, 12, 128]⟩
abbrev S2048x1536 : Shape := ⟨2, ![2048, 1536]⟩
abbrev S2048x128 : Shape := ⟨2, ![2048, 128]⟩
abbrev S2048x64 : Shape := ⟨2, ![2048, 64]⟩
abbrev S2048x768 : Shape := ⟨2, ![2048, 768]⟩
abbrev S16x128x12x64 : Shape := ⟨4, ![16, 128, 12, 64]⟩
abbrev S12x16x64x128 : Shape := ⟨4, ![12, 16, 64, 128]⟩
abbrev S1572864 : Shape := ⟨1, ![1572864]⟩
abbrev S12x2048x2048 : Shape := ⟨3, ![12, 2048, 2048]⟩
abbrev S12582912x4 : Shape := ⟨2, ![12582912, 4]⟩
abbrev S12582912 : Shape := ⟨1, ![12582912]⟩
abbrev S50331648 : Shape := ⟨1, ![50331648]⟩
abbrev S8192 : Shape := ⟨1, ![8192]⟩
abbrev S16384 : Shape := ⟨1, ![16384]⟩
abbrev S65536 : Shape := ⟨1, ![65536]⟩
abbrev S16 : Shape := ⟨1, ![16]⟩
abbrev S_ : Shape := ⟨0, ![]⟩

abbrev nBuf : Table → Nat
  | .hbm => 29
  | .local .tc .vmem => 6
  | .local .scVector .vmem => 4
  | _ => 0

abbrev bufTy : (tb : Table) → Fin (nBuf tb) → BufTy
  | .hbm, ⟨0, _⟩ => ⟨S1x12x2048x64, .f32⟩
  | .hbm, ⟨1, _⟩ => ⟨S1x12x2048x64, .f32⟩
  | .hbm, ⟨2, _⟩ => ⟨S1x12x2048x2048, .i1⟩
  | .hbm, ⟨3, _⟩ => ⟨S12x2048x64, .f32⟩
  | .hbm, ⟨4, _⟩ => ⟨S2048x12x64, .f32⟩
  | .hbm, ⟨5, _⟩ => ⟨S12x2048x64, .f32⟩
  | .hbm, ⟨6, _⟩ => ⟨S2048x12x64, .f32⟩
  | .hbm, ⟨7, _⟩ => ⟨S2048x12x128, .f32⟩
  | .hbm, ⟨8, _⟩ => ⟨S2048x1536, .f32⟩
  | .hbm, ⟨9, _⟩ => ⟨S2048x1536, .i32⟩
  | .hbm, ⟨10, _⟩ => ⟨S2048x1536, .f32⟩
  | .hbm, ⟨11, _⟩ => ⟨S2048x12x128, .i32⟩
  | .hbm, ⟨12, _⟩ => ⟨S2048x12x64, .i32⟩
  | .hbm, ⟨13, _⟩ => ⟨S2048x768, .i32⟩
  | .hbm, ⟨14, _⟩ => ⟨S2048x12x128, .f32⟩
  | .hbm, ⟨15, _⟩ => ⟨S2048x12x64, .f32⟩
  | .hbm, ⟨16, _⟩ => ⟨S2048x768, .f32⟩
  | .hbm, ⟨17, _⟩ => ⟨S16x128x12x64, .i32⟩
  | .hbm, ⟨18, _⟩ => ⟨S12x16x64x128, .i32⟩
  | .hbm, ⟨19, _⟩ => ⟨S1572864, .i32⟩
  | .hbm, ⟨20, _⟩ => ⟨S16x128x12x64, .f32⟩
  | .hbm, ⟨21, _⟩ => ⟨S12x16x64x128, .f32⟩
  | .hbm, ⟨22, _⟩ => ⟨S1572864, .f32⟩
  | .hbm, ⟨23, _⟩ => ⟨S12x2048x2048, .i1⟩
  | .hbm, ⟨24, _⟩ => ⟨S12x2048x2048, .i8⟩
  | .hbm, ⟨25, _⟩ => ⟨S12582912x4, .i8⟩
  | .hbm, ⟨26, _⟩ => ⟨S12582912, .i32⟩
  | .hbm, ⟨27, _⟩ => ⟨S50331648, .f32⟩
  | .hbm, ⟨28, _⟩ => ⟨S1x12x2048x2048, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .i32⟩
  | .local .tc .vmem, ⟨3, _⟩ => ⟨S2048x128, .i32⟩
  | .local .tc .vmem, ⟨4, _⟩ => ⟨S2048x128, .f32⟩
  | .local .tc .vmem, ⟨5, _⟩ => ⟨S2048x128, .f32⟩
  | .local .scVector .vmem, ⟨0, _⟩ => ⟨S8192, .i32⟩
  | .local .scVector .vmem, ⟨1, _⟩ => ⟨S8192, .f32⟩
  | .local .scVector .vmem, ⟨2, _⟩ => ⟨S16384, .i32⟩
  | .local .scVector .vmem, ⟨3, _⟩ => ⟨S65536, .f32⟩
  | _, _ => ⟨S1x12x2048x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v15_scv : Ref sig .scVector := ⟨.hbm, 19, rfl⟩
abbrev main_v18_scv : Ref sig .scVector := ⟨.hbm, 22, rfl⟩
abbrev main_v22_scv : Ref sig .scVector := ⟨.hbm, 26, rfl⟩
abbrev main_v23_scv : Ref sig .scVector := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![12], ![false]⟩

@[reducible] def k0_t1_loop : Scf.Loop 32 :=
  let c1_i32 : BitVec 32 := 1#32
  let c11_i32 : BitVec 32 := 11#32
  let v3 : BitVec 32 := Scalar.addi c1_i32 c11_i32
  let c1_i32_1 : BitVec 32 := 1#32
  ⟨c1_i32, v3, c1_i32_1⟩
@[reducible] def k0_t2_loop (k0_t1 : Fin k0_t1_loop.trips) : Scf.Loop 32 :=
  let c0_i32 : BitVec 32 := 0#32
  let c1_i32 : BitVec 32 := 1#32
  let c1_i32_1 : BitVec 32 := 1#32
  let arg4 : BitVec 32 := Scf.iv c1_i32 c1_i32_1 k0_t1
  let v24 : BitVec 32 := Scalar.subi arg4 c0_i32
  let c1_i32_12 : BitVec 32 := 1#32
  let v26 : BitVec 32 := Scalar.divsi v24 c1_i32_12
  let v27 : BitVec 32 := Scalar.muli v26 c1_i32_12
  let v28 : BitVec 32 := Scalar.addi c0_i32 v27
  let c1_i32_13 : BitVec 32 := 1#32
  ⟨c0_i32, v28, c1_i32_13⟩
@[reducible] def k0_t3_loop (k0_t1 : Fin k0_t1_loop.trips) : Scf.Loop 32 :=
  let c0_i32 : BitVec 32 := 0#32
  let c1_i32 : BitVec 32 := 1#32
  let c1_i32_1 : BitVec 32 := 1#32
  let arg4 : BitVec 32 := Scf.iv c1_i32 c1_i32_1 k0_t1
  let v24 : BitVec 32 := Scalar.subi arg4 c0_i32
  let c1_i32_12 : BitVec 32 := 1#32
  let v26 : BitVec 32 := Scalar.divsi v24 c1_i32_12
  let v27 : BitVec 32 := Scalar.muli v26 c1_i32_12
  let v28 : BitVec 32 := Scalar.addi c0_i32 v27
  let v25 : BitVec 32 := Scalar.addi c0_i32 v24
  let c1_i32_14 : BitVec 32 := 1#32
  ⟨v28, v25, c1_i32_14⟩
@[reducible] def k0_t4_loop : Scf.Loop 32 :=
  let c1_i32_4 : BitVec 32 := 1#32
  let c11_i32_5 : BitVec 32 := 11#32
  let v16 : BitVec 32 := Scalar.addi c1_i32_4 c11_i32_5
  let c1_i32_6 : BitVec 32 := 1#32
  ⟨c1_i32_4, v16, c1_i32_6⟩
@[reducible] def k0_t5_loop (k0_t4 : Fin k0_t4_loop.trips) : Scf.Loop 32 :=
  let c0_i32 : BitVec 32 := 0#32
  let c1_i32_4 : BitVec 32 := 1#32
  let c1_i32_6 : BitVec 32 := 1#32
  let arg4 : BitVec 32 := Scf.iv c1_i32_4 c1_i32_6 k0_t4
  let v24 : BitVec 32 := Scalar.subi arg4 c0_i32
  let c1_i32_12 : BitVec 32 := 1#32
  let v26 : BitVec 32 := Scalar.divsi v24 c1_i32_12
  let v27 : BitVec 32 := Scalar.muli v26 c1_i32_12
  let v28 : BitVec 32 := Scalar.addi c0_i32 v27
  let c1_i32_13 : BitVec 32 := 1#32
  ⟨c0_i32, v28, c1_i32_13⟩
@[reducible] def k0_t6_loop (k0_t4 : Fin k0_t4_loop.trips) : Scf.Loop 32 :=
  let c0_i32 : BitVec 32 := 0#32
  let c1_i32_4 : BitVec 32 := 1#32
  let c1_i32_6 : BitVec 32 := 1#32
  let arg4 : BitVec 32 := Scf.iv c1_i32_4 c1_i32_6 k0_t4
  let v24 : BitVec 32 := Scalar.subi arg4 c0_i32
  let c1_i32_12 : BitVec 32 := 1#32
  let v26 : BitVec 32 := Scalar.divsi v24 c1_i32_12
  let v27 : BitVec 32 := Scalar.muli v26 c1_i32_12
  let v28 : BitVec 32 := Scalar.addi c0_i32 v27
  let v25 : BitVec 32 := Scalar.addi c0_i32 v24
  let c1_i32_14 : BitVec 32 := 1#32
  ⟨v28, v25, c1_i32_14⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

@[reducible] def k1_t1_loop : Scf.Loop 32 :=
  let c0_i32_0 : BitVec 32 := 0#32
  let c6_i32 : BitVec 32 := 6#32
  let v3 : BitVec 32 := Scalar.addi c0_i32_0 c6_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32 : BitVec 32 := 1#32
  let arg10 : BitVec 32 := Scf.iv c0_i32_0 c1_i32 k1_t1
  let v4 : BitVec 32 := Scalar.muli c32_i32 arg10
  let v5 : BitVec 32 := Scalar.addi v1 v4
  let c8192_i32 : BitVec 32 := 8192#32
  let v34 : BitVec 32 := Scalar.muli v5 c8192_i32
  ![v34.toNat]
@[reducible] def k1_t2_loop : Scf.Loop 32 :=
  let c0_i32_16 : BitVec 32 := 0#32
  let c4_i32 : BitVec 32 := 4#32
  let v36 : BitVec 32 := Scalar.addi c0_i32_16 c4_i32
  let c1_i32_17 : BitVec 32 := 1#32
  ⟨c0_i32_16, v36, c1_i32_17⟩
def k1_off2 (i : grid1.Coords) (k1_t1 : Fin k1_t1_loop.trips) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32 : BitVec 32 := 1#32
  let arg10 : BitVec 32 := Scf.iv c0_i32_0 c1_i32 k1_t1
  let v4 : BitVec 32 := Scalar.muli c32_i32 arg10
  let v5 : BitVec 32 := Scalar.addi v1 v4
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let c2048_i32 : BitVec 32 := 2048#32
  let v39 : BitVec 32 := Scalar.muli v22 c2048_i32
  let c16_i32_8 : BitVec 32 := 16#32
  let c0_i32_9 : BitVec 32 := 0#32
  let v23 : BitVec 1 := Scalar.cmpi .eq c16_i32_8 c0_i32_9
  let c1_i32_10 : BitVec 32 := 1#32
  let v24 : BitVec 32 := Scalar.select v23 c1_i32_10 c16_i32_8
  let v25 : BitVec 32 := Scalar.remsi v5 v24
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let c0_i32_11 : BitVec 32 := 0#32
  let v26 : BitVec 1 := Scalar.cmpi .ne v25 c0_i32_11
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let c0_i32_16 : BitVec 32 := 0#32
  let c1_i32_17 : BitVec 32 := 1#32
  let arg11 : BitVec 32 := Scf.iv c0_i32_16 c1_i32_17 k1_t2
  let c32_i32_19 : BitVec 32 := 32#32
  let v37 : BitVec 32 := Scalar.muli arg11 c32_i32_19
  let v38 : BitVec 32 := Scalar.addi v33 v37
  let v40 : BitVec 32 := Scalar.addi v39 v38
  let c512_i32 : BitVec 32 := 512#32
  let v41 : BitVec 32 := Scalar.muli v40 c512_i32
  ![v41.toNat]
@[reducible] def k1_t3_loop : Scf.Loop 32 :=
  let c0_i32_21 : BitVec 32 := 0#32
  let c4096_i32 : BitVec 32 := 4096#32
  let v42 : BitVec 32 := Scalar.addi c0_i32_21 c4096_i32
  let c1_i32_22 : BitVec 32 := 1#32
  ⟨c0_i32_21, v42, c1_i32_22⟩
def k1_off3 (k1_t3 : Fin k1_t3_loop.trips) : Fin 1 → Nat :=
  let c0_i32_21 : BitVec 32 := 0#32
  let c1_i32_22 : BitVec 32 := 1#32
  let arg12 : BitVec 32 := Scf.iv c0_i32_21 c1_i32_22 k1_t3
  let c16_i32_30 : BitVec 32 := 16#32
  let v48 : BitVec 32 := Scalar.muli arg12 c16_i32_30
  let v49 : Index := Scalar.indexCast v48
  ![v49.toNat]
@[reducible] def k1_t4_loop : Scf.Loop 32 :=
  let c0_i32_25 : BitVec 32 := 0#32
  let c64_i32 : BitVec 32 := 64#32
  let v43 : BitVec 32 := Scalar.addi c0_i32_25 c64_i32
  let c1_i32_26 : BitVec 32 := 1#32
  ⟨c0_i32_25, v43, c1_i32_26⟩
@[reducible] def k1_t5_loop : Scf.Loop 32 :=
  let c0_i32_30 : BitVec 32 := 0#32
  let c2_i32_31 : BitVec 32 := 2#32
  let v47 : BitVec 32 := Scalar.addi c0_i32_30 c2_i32_31
  let c1_i32_32 : BitVec 32 := 1#32
  ⟨c0_i32_30, v47, c1_i32_32⟩
def k1_off4 (k1_t2 : Fin k1_t2_loop.trips) (k1_t4 : Fin k1_t4_loop.trips) (k1_t5 : Fin k1_t5_loop.trips) : Fin 1 → Nat :=
  let c0_i32_25 : BitVec 32 := 0#32
  let c1_i32_26 : BitVec 32 := 1#32
  let arg12 : BitVec 32 := Scf.iv c0_i32_25 c1_i32_26 k1_t4
  let c128_i32_34 : BitVec 32 := 128#32
  let v48 : BitVec 32 := Scalar.muli arg12 c128_i32_34
  let c0_i32_16 : BitVec 32 := 0#32
  let c1_i32_17 : BitVec 32 := 1#32
  let arg11 : BitVec 32 := Scf.iv c0_i32_16 c1_i32_17 k1_t2
  let c32_i32_35 : BitVec 32 := 32#32
  let v49 : BitVec 32 := Scalar.muli arg11 c32_i32_35
  let v50 : BitVec 32 := Scalar.addi v48 v49
  let c0_i32_30 : BitVec 32 := 0#32
  let c1_i32_32 : BitVec 32 := 1#32
  let arg13 : BitVec 32 := Scf.iv c0_i32_30 c1_i32_32 k1_t5
  let c16_i32_36 : BitVec 32 := 16#32
  let v51 : BitVec 32 := Scalar.muli arg13 c16_i32_36
  let v52 : BitVec 32 := Scalar.addi v50 v51
  let v53 : Index := Scalar.indexCast v52
  ![v53.toNat]

def k1_chk1 (v64 : IVec S16 32) : Prop :=
  (∀ a x, ((![v64] : Fin 1 → IVec S16 32) a x).toNat < S16384.size a)
theorem k1_idx1_inb : ∀ (v64 : IVec S16 32) (k1_hw1 : k1_chk1 v64), ∀ a x, ((![v64] : Fin 1 → IVec S16 32) a x).toNat < S16384.size a := fun v64 k1_hw1 => k1_hw1

def k1_chk2 (v77 : IVec S16 32) : Prop :=
  (∀ a x, ((![v77] : Fin 1 → IVec S16 32) a x).toNat < S65536.size a)
theorem k1_idx2_inb : ∀ (v77 : IVec S16 32) (k1_hw2 : k1_chk2 v77), ∀ a x, ((![v77] : Fin 1 → IVec S16 32) a x).toNat < S65536.size a := fun v77 k1_hw2 => k1_hw2
def k1_off5 (i : grid1.Coords) (k1_t1 : Fin k1_t1_loop.trips) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_0 : BitVec 32 := 0#32
  let c1_i32 : BitVec 32 := 1#32
  let arg10 : BitVec 32 := Scf.iv c0_i32_0 c1_i32 k1_t1
  let v4 : BitVec 32 := Scalar.muli c32_i32 arg10
  let v5 : BitVec 32 := Scalar.addi v1 v4
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let c2048_i32_28 : BitVec 32 := 2048#32
  let v44 : BitVec 32 := Scalar.muli v22 c2048_i32_28
  let c16_i32_8 : BitVec 32 := 16#32
  let c0_i32_9 : BitVec 32 := 0#32
  let v23 : BitVec 1 := Scalar.cmpi .eq c16_i32_8 c0_i32_9
  let c1_i32_10 : BitVec 32 := 1#32
  let v24 : BitVec 32 := Scalar.select v23 c1_i32_10 c16_i32_8
  let v25 : BitVec 32 := Scalar.remsi v5 v24
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let c0_i32_11 : BitVec 32 := 0#32
  let v26 : BitVec 1 := Scalar.cmpi .ne v25 c0_i32_11
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let c0_i32_16 : BitVec 32 := 0#32
  let c1_i32_17 : BitVec 32 := 1#32
  let arg11 : BitVec 32 := Scf.iv c0_i32_16 c1_i32_17 k1_t2
  let c32_i32_19 : BitVec 32 := 32#32
  let v37 : BitVec 32 := Scalar.muli arg11 c32_i32_19
  let v38 : BitVec 32 := Scalar.addi v33 v37
  let v45 : BitVec 32 := Scalar.addi v44 v38
  let c2048_i32_29 : BitVec 32 := 2048#32
  let v46 : BitVec 32 := Scalar.muli v45 c2048_i32_29
  ![v46.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x12x2048x64 : Shape := ⟨4, ![1, 12, 2048, 64]⟩
abbrev S1x12x2048x2048 : Shape := ⟨4, ![1, 12, 2048, 2048]⟩
abbrev S12x2048x64 : Shape := ⟨3, ![12, 2048, 64]⟩
abbrev S_ : Shape := ⟨0, ![]⟩
abbrev S12x2048x64x1 : Shape := ⟨4, ![12, 2048, 64, 1]⟩
abbrev S1 : Shape := ⟨1, ![1]⟩
abbrev S1x1x1x1 : Shape := ⟨4, ![1, 1, 1, 1]⟩
abbrev S12 : Shape := ⟨1, ![12]⟩
abbrev S12x1x1 : Shape := ⟨3, ![12, 1, 1]⟩
abbrev S1572864 : Shape := ⟨1, ![1572864]⟩
abbrev S50331648 : Shape := ⟨1, ![50331648]⟩
abbrev S1572864x1 : Shape := ⟨2, ![1572864, 1]⟩
abbrev S12x2048x2048 : Shape := ⟨3, ![12, 2048, 2048]⟩

abbrev nBuf : Space → Nat
  | .hbm => 92
  | .vmem => 0
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x2048, .i1⟩
  | .hbm, ⟨3, _⟩ => ⟨S12x2048x64, .f32⟩
  | .hbm, ⟨4, _⟩ => ⟨S12x2048x64, .f32⟩
  | .hbm, ⟨5, _⟩ => ⟨S12x2048x64, .i32⟩
  | .hbm, ⟨6, _⟩ => ⟨S12x2048x64, .f32⟩
  | .hbm, ⟨7, _⟩ => ⟨S12x2048x64, .i32⟩
  | .hbm, ⟨8, _⟩ => ⟨S12x2048x64, .i32⟩
  | .hbm, ⟨9, _⟩ => ⟨S12x2048x64, .f32⟩
  | .hbm, ⟨10, _⟩ => ⟨S12x2048x64, .i32⟩
  | .hbm, ⟨11, _⟩ => ⟨S_, .i32⟩
  | .hbm, ⟨12, _⟩ => ⟨S12x2048x64, .i32⟩
  | .hbm, ⟨13, _⟩ => ⟨S12x2048x64, .i1⟩
  | .hbm, ⟨14, _⟩ => ⟨S_, .i32⟩
  | .hbm, ⟨15, _⟩ => ⟨S12x2048x64, .i32⟩
  | .hbm, ⟨16, _⟩ => ⟨S12x2048x64, .i32⟩
  | .hbm, ⟨17, _⟩ => ⟨S12x2048x64, .i32⟩
  | .hbm, ⟨18, _⟩ => ⟨S12x2048x64x1, .i32⟩
  | .hbm, ⟨19, _⟩ => ⟨S1, .i32⟩
  | .hbm, ⟨20, _⟩ => ⟨S_, .i32⟩
  | .hbm, ⟨21, _⟩ => ⟨S12x2048x64x1, .i32⟩
  | .hbm, ⟨22, _⟩ => ⟨S12x2048x64x1, .i1⟩
  | .hbm, ⟨23, _⟩ => ⟨S1x1x1x1, .i32⟩
  | .hbm, ⟨24, _⟩ => ⟨S12x2048x64x1, .i32⟩
  | .hbm, ⟨25, _⟩ => ⟨S12x2048x64x1, .i1⟩
  | .hbm, ⟨26, _⟩ => ⟨S12x2048x64x1, .i1⟩
  | .hbm, ⟨27, _⟩ => ⟨S_, .i1⟩
  | .hbm, ⟨28, _⟩ => ⟨S12x2048x64, .i1⟩
  | .hbm, ⟨29, _⟩ => ⟨S12x2048x64, .f32⟩
  | .hbm, ⟨30, _⟩ => ⟨S_, .f32⟩
  | .hbm, ⟨31, _⟩ => ⟨S12x2048x64, .f32⟩
  | .hbm, ⟨32, _⟩ => ⟨S12x2048x64, .f32⟩
  | .hbm, ⟨33, _⟩ => ⟨S_, .i32⟩
  | .hbm, ⟨34, _⟩ => ⟨S12x2048x64, .i32⟩
  | .hbm, ⟨35, _⟩ => ⟨S12x2048x64, .i1⟩
  | .hbm, ⟨36, _⟩ => ⟨S_, .i32⟩
  | .hbm, ⟨37, _⟩ => ⟨S12x2048x64, .i32⟩
  | .hbm, ⟨38, _⟩ => ⟨S12x2048x64, .i32⟩
  | .hbm, ⟨39, _⟩ => ⟨S12x2048x64, .i32⟩
  | .hbm, ⟨40, _⟩ => ⟨S12x2048x64x1, .i32⟩
  | .hbm, ⟨41, _⟩ => ⟨S1, .i32⟩
  | .hbm, ⟨42, _⟩ => ⟨S_, .i32⟩
  | .hbm, ⟨43, _⟩ => ⟨S12x2048x64x1, .i32⟩
  | .hbm, ⟨44, _⟩ => ⟨S12x2048x64x1, .i1⟩
  | .hbm, ⟨45, _⟩ => ⟨S1x1x1x1, .i32⟩
  | .hbm, ⟨46, _⟩ => ⟨S12x2048x64x1, .i32⟩
  | .hbm, ⟨47, _⟩ => ⟨S12x2048x64x1, .i1⟩
  | .hbm, ⟨48, _⟩ => ⟨S12x2048x64x1, .i1⟩
  | .hbm, ⟨49, _⟩ => ⟨S_, .i1⟩
  | .hbm, ⟨50, _⟩ => ⟨S12x2048x64, .i1⟩
  | .hbm, ⟨51, _⟩ => ⟨S12x2048x64, .f32⟩
  | .hbm, ⟨52, _⟩ => ⟨S_, .f32⟩
  | .hbm, ⟨53, _⟩ => ⟨S12x2048x64, .f32⟩
  | .hbm, ⟨54, _⟩ => ⟨S12x2048x64, .f32⟩
  | .hbm, ⟨55, _⟩ => ⟨S12x2048x64, .f32⟩
  | .hbm, ⟨56, _⟩ => ⟨S12x2048x64, .f32⟩
  | .hbm, ⟨57, _⟩ => ⟨S12x2048x64, .f32⟩
  | .hbm, ⟨58, _⟩ => ⟨S12x2048x64, .f32⟩
  | .hbm, ⟨59, _⟩ => ⟨S12, .i32⟩
  | .hbm, ⟨60, _⟩ => ⟨S12x1x1, .i32⟩
  | .hbm, ⟨61, _⟩ => ⟨S_, .i32⟩
  | .hbm, ⟨62, _⟩ => ⟨S12x1x1, .i32⟩
  | .hbm, ⟨63, _⟩ => ⟨S12x1x1, .i32⟩
  | .hbm, ⟨64, _⟩ => ⟨S_, .i32⟩
  | .hbm, ⟨65, _⟩ => ⟨S12x2048x64, .i32⟩
  | .hbm, ⟨66, _⟩ => ⟨S12x2048x64, .i32⟩
  | .hbm, ⟨67, _⟩ => ⟨S12x2048x64, .i32⟩
  | .hbm, ⟨68, _⟩ => ⟨S12x2048x64, .i32⟩
  | .hbm, ⟨69, _⟩ => ⟨S12x2048x64, .i32⟩
  | .hbm, ⟨70, _⟩ => ⟨S1572864, .i32⟩
  | .hbm, ⟨71, _⟩ => ⟨S_, .f32⟩
  | .hbm, ⟨72, _⟩ => ⟨S50331648, .f32⟩
  | .hbm, ⟨73, _⟩ => ⟨S1572864, .f32⟩
  | .hbm, ⟨74, _⟩ => ⟨S_, .i32⟩
  | .hbm, ⟨75, _⟩ => ⟨S1572864, .i32⟩
  | .hbm, ⟨76, _⟩ => ⟨S1572864, .i1⟩
  | .hbm, ⟨77, _⟩ => ⟨S_, .i32⟩
  | .hbm, ⟨78, _⟩ => ⟨S1572864, .i32⟩
  | .hbm, ⟨79, _⟩ => ⟨S1572864, .i32⟩
  | .hbm, ⟨80, _⟩ => ⟨S1572864, .i32⟩
  | .hbm, ⟨81, _⟩ => ⟨S1572864x1, .i32⟩
  | .hbm, ⟨82, _⟩ => ⟨S50331648, .f32⟩
  | .hbm, ⟨83, _⟩ => ⟨S12x2048x2048, .f32⟩
  | .hbm, ⟨84, _⟩ => ⟨S_, .f32⟩
  | .hbm, ⟨85, _⟩ => ⟨S12x2048x2048, .f32⟩
  | .hbm, ⟨86, _⟩ => ⟨S12x2048x2048, .f32⟩
  | .hbm, ⟨87, _⟩ => ⟨S12x2048x2048, .i1⟩
  | .hbm, ⟨88, _⟩ => ⟨S_, .f32⟩
  | .hbm, ⟨89, _⟩ => ⟨S12x2048x2048, .f32⟩
  | .hbm, ⟨90, _⟩ => ⟨S12x2048x2048, .f32⟩
  | .hbm, ⟨91, _⟩ => ⟨S1x12x2048x2048, .f32⟩
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1_0 : Ref sig .tc := ⟨.hbm, 6, rfl⟩
abbrev main_v2 : Ref sig .tc := ⟨.hbm, 7, rfl⟩
abbrev main_call1_v0 : Ref sig .tc := ⟨.hbm, 8, rfl⟩
abbrev main_call1_v1_0 : Ref sig .tc := ⟨.hbm, 9, rfl⟩
abbrev main_v3 : Ref sig .tc := ⟨.hbm, 10, rfl⟩
abbrev main_call2_c : Ref sig .tc := ⟨.hbm, 11, rfl⟩
abbrev main_call2_v0 : Ref sig .tc := ⟨.hbm, 12, rfl⟩
abbrev main_call2_v1 : Ref sig .tc := ⟨.hbm, 13, rfl⟩
abbrev main_call2_c_0 : Ref sig .tc := ⟨.hbm, 14, rfl⟩
abbrev main_call2_v2 : Ref sig .tc := ⟨.hbm, 15, rfl⟩
abbrev main_call2_v3 : Ref sig .tc := ⟨.hbm, 16, rfl⟩
abbrev main_call2_v4 : Ref sig .tc := ⟨.hbm, 17, rfl⟩
abbrev main_call2_v5 : Ref sig .tc := ⟨.hbm, 18, rfl⟩
abbrev main_call2_c_1 : Ref sig .tc := ⟨.hbm, 19, rfl⟩
abbrev main_call2_c_2 : Ref sig .tc := ⟨.hbm, 20, rfl⟩
abbrev main_call2_v6 : Ref sig .tc := ⟨.hbm, 21, rfl⟩
abbrev main_call2_v7 : Ref sig .tc := ⟨.hbm, 22, rfl⟩
abbrev main_call2_v8 : Ref sig .tc := ⟨.hbm, 23, rfl⟩
abbrev main_call2_v9 : Ref sig .tc := ⟨.hbm, 24, rfl⟩
abbrev main_call2_v10 : Ref sig .tc := ⟨.hbm, 25, rfl⟩
abbrev main_call2_v11 : Ref sig .tc := ⟨.hbm, 26, rfl⟩
abbrev main_call2_c_3 : Ref sig .tc := ⟨.hbm, 27, rfl⟩
abbrev main_call2_v12 : Ref sig .tc := ⟨.hbm, 28, rfl⟩
abbrev main_call2_v13 : Ref sig .tc := ⟨.hbm, 29, rfl⟩
abbrev main_call2_cst : Ref sig .tc := ⟨.hbm, 30, rfl⟩
abbrev main_call2_v14 : Ref sig .tc := ⟨.hbm, 31, rfl⟩
abbrev main_v4 : Ref sig .tc := ⟨.hbm, 32, rfl⟩
abbrev main_call3_c : Ref sig .tc := ⟨.hbm, 33, rfl⟩
abbrev main_call3_v0 : Ref sig .tc := ⟨.hbm, 34, rfl⟩
abbrev main_call3_v1 : Ref sig .tc := ⟨.hbm, 35, rfl⟩
abbrev main_call3_c_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_c_1 : Ref sig .tc := ⟨.hbm, 41, rfl⟩
abbrev main_call3_c_2 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_3 : Ref sig .tc := ⟨.hbm, 49, rfl⟩
abbrev main_call3_v12 : Ref sig .tc := ⟨.hbm, 50, rfl⟩
abbrev main_call3_v13 : Ref sig .tc := ⟨.hbm, 51, rfl⟩
abbrev main_call3_cst : Ref sig .tc := ⟨.hbm, 52, rfl⟩
abbrev main_call3_v14 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_c : Ref sig .tc := ⟨.hbm, 61, rfl⟩
abbrev main_v12 : Ref sig .tc := ⟨.hbm, 62, rfl⟩
abbrev main_v13 : Ref sig .tc := ⟨.hbm, 63, rfl⟩
abbrev main_c_0 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_cst : Ref sig .tc := ⟨.hbm, 71, rfl⟩
abbrev main_v20 : Ref sig .tc := ⟨.hbm, 72, rfl⟩
abbrev main_v21 : Ref sig .tc := ⟨.hbm, 73, rfl⟩
abbrev main_c_1 : Ref sig .tc := ⟨.hbm, 74, rfl⟩
abbrev main_v22 : Ref sig .tc := ⟨.hbm, 75, rfl⟩
abbrev main_v23 : Ref sig .tc := ⟨.hbm, 76, rfl⟩
abbrev main_c_2 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_cst_3 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_cst_4 : Ref sig .tc := ⟨.hbm, 88, rfl⟩
abbrev main_call4_v0 : Ref sig .tc := ⟨.hbm, 89, rfl⟩
abbrev main_v33 : Ref sig .tc := ⟨.hbm, 90, rfl⟩
abbrev main_v34 : Ref sig .tc := ⟨.hbm, 91, rfl⟩

abbrev nD : Nat := 1
abbrev τ : Topo := Topo.v7x

variable {F : FTy → Type} [FloatOps F]
-- ==== Proof.ScVal.lean ====
/-
  What one SparseCore task computes, as a pure function. A task's output row is built by adding, for each of the
  64 features in turn, one value into the row at the column the sort named, where the mask byte of that column is
  zero. `accAt` is that running sum at one output position, `scOut` the whole output, and `scatter_step` says that
  the kernel's masked scatter-add moves sixteen rows from one prefix of the sum to the next.
-/
module

public import proofs.«01_k».proof.Defs
public import Idealize.ShloMosaic.Lib.WordCmp
public import proofs.«01_k».proof.Proof.Gen.KernelIdeal
public import proofs.«01_k».proof.Proof.Gen.KernelIdeal.Skeleton

@[expose] public section

noncomputable section

namespace Cert.Proof.ScVal

open Cert.KernelIdeal Cert.KernelIdeal.Gen
open Idealize.ShloMosaic

variable {F : FTy → Type}

/-! ## Flat positions -/

/-- Position `n` of a flat buffer of `N` elements, counted round. -/
def ixm (N : ℕ) (hN : 0 < N) (n : ℕ) : (⟨1, ![N]⟩ : Shape).Idx := fun a =>
  ⟨n % N, by rw [Subsingleton.elim a 0]; exact Nat.mod_lt _ hN⟩

/-- Below the size it is the number itself. -/
theorem ixm_val {N : ℕ} (hN : 0 < N) {n : ℕ} (h : n < N) (a : Fin 1) : (ixm N hN n a).val = n := Nat.mod_eq_of_lt h

/-- Every index is that of its number. -/
theorem eq_ixm {N : ℕ} (hN : 0 < N) (i : (⟨1, ![N]⟩ : Shape).Idx) (n : ℕ) (h : (i 0).val = n) : i = ixm N hN n := by
  have hl : (i 0).val < N := (i 0).isLt
  funext a; apply Fin.ext; rw [ixm_val hN (h ▸ hl), ← h, Subsingleton.elim a 0]

/-! ## A scatter-add whose lanes name different elements -/

section Store

variable [FloatOps F] {n N : ℕ} {e : EltTy}

/-- A run of updates each of which changes only the positions it hits leaves a position none of them hits. -/
theorem foldl_miss {ι J α : Type} (P : ι → Prop) [DecidablePred P] (H : ι → J → Prop) [∀ k j, Decidable (H k j)] (Y : ι → (J → α) → α) (j : J) :
    ∀ (l : List ι) (g : J → α), (∀ k ∈ l, P k → ¬H k j) →
      l.foldl (fun g k => if P k then fun j' => if H k j' then Y k g else g j' else g) g j = g j
  | [], _, _ => rfl
  | k :: l, g, hl => by
      rw [List.foldl_cons, foldl_miss P H Y j l _ fun k' hk' => hl k' (List.mem_cons_of_mem _ hk')]
      by_cases hm : P k
      · rw [if_pos hm, if_neg (hl k List.mem_cons_self hm)]
      · rw [if_neg hm]

/-- The same run at a position exactly one of the updates can hit. -/
theorem foldl_hit {ι J α : Type} (P : ι → Prop) [DecidablePred P] (H : ι → J → Prop) [∀ k j, Decidable (H k j)] (Y : ι → (J → α) → α) (j : J) (l : List ι) (hnd : l.Nodup)
    (g : J → α) (k : ι) (hk : k ∈ l) (hP : P k) (hH : H k j) (hu : ∀ k' ∈ l, k' ≠ k → ¬H k' j) (y : α)
    (hY : ∀ g' : J → α, g' j = g j → Y k g' = y) :
    l.foldl (fun g k => if P k then fun j' => if H k j' then Y k g else g j' else g) g j = y := by
  obtain ⟨l₁, l₂, rfl⟩ := List.append_of_mem hk
  have h1 : ∀ k' ∈ l₁, k' ≠ k := fun k' hk' e => by
    subst e; exact (List.nodup_append.mp hnd).2.2 _ hk' _ List.mem_cons_self rfl
  have h2 : ∀ k' ∈ l₂, k' ≠ k := fun k' hk' e => by
    subst e; exact (List.nodup_cons.mp (List.nodup_append.mp hnd).2.1).1 hk'
  rw [List.foldl_append, List.foldl_cons, foldl_miss P H Y j l₂ _ fun k' hk' _ => hu k' (List.mem_append_right _ (List.mem_cons_of_mem _ hk')) (h2 k' hk'),
    if_pos hP, if_pos hH]
  exact hY _ (foldl_miss P H Y j l₁ g fun k' hk' _ => hu k' (List.mem_append_left _ hk') (h1 k' hk'))

/-- Element `j` after a scatter-add no set lane of which names it. -/
theorem storeIdx_miss (f : Vec F ⟨1, ![N]⟩ e) (idxs : Fin 1 → IVec ⟨1, ![n]⟩ 32) (v : Vec F ⟨1, ![n]⟩ e) (mask : IVec ⟨1, ![n]⟩ 1)
    (h : ∀ a x, (idxs a x).toNat < (⟨1, ![N]⟩ : Shape).size a) (j : (⟨1, ![N]⟩ : Shape).Idx)
    (hj : ∀ k : Fin n, mask (Shape.ofLane (d := ![n]) k) = 1 → (j 0).val ≠ (idxs 0 (Shape.ofLane (d := ![n]) k)).toNat) :
    storeIdx f idxs v mask true h j = f j := by
  unfold storeIdx
  simp only [if_true]
  exact foldl_miss (ι := Fin (![n] 0)) (fun k => mask (Shape.ofLane (d := ![n]) k) = 1)
    (fun k (j' : (⟨1, ![N]⟩ : Shape).Idx) => ∀ a, (j' a).val = (idxAt idxs h (Shape.ofLane (d := ![n]) k) a).val)
    (fun k g => Elt.idxAdd e (g (idxAt idxs h (Shape.ofLane (d := ![n]) k))) (v (Shape.ofLane (d := ![n]) k))) j
    (List.finRange (![n] 0)) f fun k _ hm hh => hj k hm (hh 0)

/-- Element `j` after a scatter-add exactly one set lane of which names it. -/
theorem storeIdx_hit (f : Vec F ⟨1, ![N]⟩ e) (idxs : Fin 1 → IVec ⟨1, ![n]⟩ 32) (v : Vec F ⟨1, ![n]⟩ e) (mask : IVec ⟨1, ![n]⟩ 1)
    (h : ∀ a x, (idxs a x).toNat < (⟨1, ![N]⟩ : Shape).size a) (j : (⟨1, ![N]⟩ : Shape).Idx) (k : Fin n)
    (hm : mask (Shape.ofLane (d := ![n]) k) = 1) (hk : (j 0).val = (idxs 0 (Shape.ofLane (d := ![n]) k)).toNat)
    (hu : ∀ k' : Fin n, k' ≠ k → (j 0).val ≠ (idxs 0 (Shape.ofLane (d := ![n]) k')).toNat) :
    storeIdx f idxs v mask true h j = Elt.idxAdd e (f j) (v (Shape.ofLane (d := ![n]) k)) := by
  have hat : ∀ a, (j a).val = (idxAt idxs h (Shape.ofLane (d := ![n]) k) a).val := fun a => by
    rw [Subsingleton.elim a 0]; exact hk
  have hji : idxAt idxs h (Shape.ofLane (d := ![n]) k) = j := funext fun a => Fin.ext (hat a).symm
  unfold storeIdx
  simp only [if_true]
  exact foldl_hit (ι := Fin (![n] 0)) (fun k => mask (Shape.ofLane (d := ![n]) k) = 1)
    (fun k (j' : (⟨1, ![N]⟩ : Shape).Idx) => ∀ a, (j' a).val = (idxAt idxs h (Shape.ofLane (d := ![n]) k) a).val)
    (fun k g => Elt.idxAdd e (g (idxAt idxs h (Shape.ofLane (d := ![n]) k))) (v (Shape.ofLane (d := ![n]) k))) j
    (List.finRange (![n] 0)) (List.nodup_finRange _) f k (List.mem_finRange _) hm hat (fun k' _ hk' hh => hu k' hk' (hh 0)) _
    fun g' hg' => by rw [hji, hg']

end Store

/-! ## The running sum -/

variable [FloatOps F]

open scoped Classical in
/-- The value added up at the first `n` places where `P` holds, from zero, in order. -/
def accAt (P : ℕ → Prop) (v : ℕ → F .f32) : ℕ → F .f32
  | 0 => Scalar.ofBits .f32 0x00000000#32
  | n + 1 => if P n then Elt.idxAdd (F := F) .f32 (accAt P v n) (v n) else accAt P v n

open scoped Classical in
/-- The sum depends on its first terms alone. -/
theorem accAt_congr {P P' : ℕ → Prop} {v v' : ℕ → F .f32} (n : ℕ) (hP : ∀ k < n, P k ↔ P' k) (hv : ∀ k < n, v k = v' k) :
    accAt P v n = accAt P' v' n := by
  induction n with
  | zero => rfl
  | succ n ih =>
    have := ih (fun k hk => hP k (hk.trans n.lt_succ_self)) (fun k hk => hv k (hk.trans n.lt_succ_self))
    simp only [accAt, this, hP n n.lt_succ_self, hv n n.lt_succ_self]

/-- Byte `b` of word `w` is zero. -/
def keep (w : BitVec 32) (b : ℕ) : Prop := (w >>> (b * 8)) &&& 255#32 = 0#32

/-- An element of a span's buffer. -/
abbrev at8192 {α : Type} (f : S8192.Idx → α) (n : ℕ) : α := f (ixm 8192 (by decide) n)
/-- An element of a part's mask words. -/
abbrev at16384 {α : Type} (f : S16384.Idx → α) (n : ℕ) : α := f (ixm 16384 (by decide) n)

/-- Whether feature `di` of the task's span lands on position `j` of the 32 rows of part `sub`. -/
def hits (cb : Vec F S8192 .i32) (mb : Vec F S16384 .i32) (sub j di : ℕ) : Prop :=
  (at8192 cb (di * 128 + sub * 32 + j / 2048)).toNat = j % 2048 ∧ keep (at16384 mb (j / 4)) (j % 4)

/-- The 32 rows of part `sub` after the first `n` features. -/
def rows (cb : Vec F S8192 .i32) (vb : Vec F S8192 .f32) (mb : Vec F S16384 .i32) (sub n : ℕ) : Vec F S65536 .f32 := fun j =>
  accAt (hits cb mb sub (j 0).val) (fun di => at8192 vb (di * 128 + sub * 32 + (j 0).val / 2048)) n

/-- The same with feature `d` in too for the first `g` groups of sixteen rows. -/
def rowsG (cb : Vec F S8192 .i32) (vb : Vec F S8192 .f32) (mb : Vec F S16384 .i32) (sub d g : ℕ) : Vec F S65536 .f32 := fun j =>
  if (j 0).val / 2048 / 16 < g then rows cb vb mb sub (d + 1) j else rows cb vb mb sub d j

/-- With no group in, the feature is not in yet. -/
theorem rowsG_zero (cb : Vec F S8192 .i32) (vb : Vec F S8192 .f32) (mb : Vec F S16384 .i32) (sub d : ℕ) :
    rowsG cb vb mb sub d 0 = rows cb vb mb sub d := by funext j; simp [rowsG]

/-- With both groups in, the feature is in. -/
theorem rowsG_two (cb : Vec F S8192 .i32) (vb : Vec F S8192 .f32) (mb : Vec F S16384 .i32) (sub d : ℕ) :
    rowsG cb vb mb sub d 2 = rows cb vb mb sub (d + 1) := by
  funext j
  have hj : (j 0).val < 65536 := (j 0).isLt
  rw [rowsG, if_pos]; omega

/-! ## The payloads, lane by lane -/

omit [FloatOps F] in
/-- A lane's row among the part's. -/
theorem pay2_toNat (g : Fin k1_t5_loop.trips) (k : Fin 16) : (k1_pay2 g (Shape.ofLane (d := ![16]) k)).toNat = g.val * 16 + k.val := by
  have hg : g.val < 2 := g.isLt.trans_le k1_t5_abs.2.1
  have hk := k.isLt
  generalize hgv : g.val = gv at hg
  show (k1_pay2 g (Shape.ofLane (d := ![16]) k)).toNat = _
  have : k1_pay2 g (Shape.ofLane (d := ![16]) k) = (0#32 + BitVec.ofNat 32 gv * 1#32) * 16#32 + BitVec.ofNat 32 (0 * 16 + k.val) := by
    subst hgv; rfl
  rw [this]
  simp only [BitVec.toNat_add, BitVec.toNat_mul, BitVec.toNat_ofNat]
  omega

omit [FloatOps F] in
/-- The mask word that a lane gathers. -/
theorem pay3_toNat (g : Fin k1_t5_loop.trips) (v : Vec F S16 .i32) (k : Fin 16) (hv : (v (Shape.ofLane (d := ![16]) k)).toNat < 2048) :
    (k1_pay3 g v (Shape.ofLane (d := ![16]) k)).toNat = (g.val * 16 + k.val) * 512 + (v (Shape.ofLane (d := ![16]) k)).toNat / 4 := by
  have hg : g.val < 2 := g.isLt.trans_le k1_t5_abs.2.1
  have hk := k.isLt
  have : k1_pay3 g v (Shape.ofLane (d := ![16]) k) = k1_pay2 g (Shape.ofLane (d := ![16]) k) * 512#32 + (v (Shape.ofLane (d := ![16]) k)) >>> 2 := rfl
  have h4 : (v (Shape.ofLane (d := ![16]) k) >>> 2).toNat = (v (Shape.ofLane (d := ![16]) k)).toNat / 4 := by
    rw [BitVec.toNat_ushiftRight, Nat.shiftRight_eq_div_pow]
  rw [this, BitVec.toNat_add, BitVec.toNat_mul, pay2_toNat, h4, BitVec.toNat_ofNat]
  omega

omit [FloatOps F] in
/-- The word that a lane adds to. -/
theorem pay5_toNat (g : Fin k1_t5_loop.trips) (v : Vec F S16 .i32) (k : Fin 16) (hv : (v (Shape.ofLane (d := ![16]) k)).toNat < 2048) :
    (k1_pay5 g v (Shape.ofLane (d := ![16]) k)).toNat = (g.val * 16 + k.val) * 2048 + (v (Shape.ofLane (d := ![16]) k)).toNat := by
  have hg : g.val < 2 := g.isLt.trans_le k1_t5_abs.2.1
  have hk := k.isLt
  have : k1_pay5 g v (Shape.ofLane (d := ![16]) k) = k1_pay2 g (Shape.ofLane (d := ![16]) k) * 2048#32 + v (Shape.ofLane (d := ![16]) k) := rfl
  rw [this, BitVec.toNat_add, BitVec.toNat_mul, pay2_toNat, BitVec.toNat_ofNat]
  omega

omit [FloatOps F] in
/-- A lane adds where its mask byte is zero. -/
theorem pay4_iff (v w : Vec F S16 .i32) (k : Fin 16) :
    k1_pay4 v w (Shape.ofLane (d := ![16]) k) = 1 ↔ keep (w (Shape.ofLane (d := ![16]) k)) ((v (Shape.ofLane (d := ![16]) k)).toNat % 4) := by
  generalize hx : Shape.ofLane (d := ![16]) k = x
  have hand : ((v x) &&& 3#32).toNat = (v x).toNat % 4 := by
    rw [BitVec.toNat_and]; exact Nat.and_two_pow_sub_one_eq_mod _ 2
  have hs : (((v x) &&& 3#32) * 8#32).toNat = (v x).toNat % 4 * 8 := by
    rw [BitVec.toNat_mul, hand, BitVec.toNat_ofNat]; omega
  have e : k1_pay4 v w x = IntOp.cmpi .eq (IntOp.shrui .vector (w x) (((v x) &&& 3#32) * 8#32) &&& 255#32) 0#32 := rfl
  rw [e, IntOp.shrui, if_pos (by rw [hs]; omega), keep, BitVec.ushiftRight_eq', hs]
  exact IntOp.cmpi_eq

/-! ## The scatter-add's step -/

/-- Every index of sixteen is a lane. -/
theorem lane_surj (x : S16.Idx) : ∃ k : Fin 16, Shape.ofLane (d := ![16]) k = x :=
  ⟨x 0, by funext a; rw [Subsingleton.elim a 0]; rfl⟩

omit [FloatOps F] in
/-- The gathered words are in range. -/
theorem chk1_of (g : Fin k1_t5_loop.trips) (v : Vec F S16 .i32) (hv : ∀ k : Fin 16, (v (Shape.ofLane (d := ![16]) k)).toNat < 2048) :
    k1_chk1 (k1_pay3 g v) := by
  intro a x
  obtain ⟨k, rfl⟩ := lane_surj x
  obtain rfl : a = 0 := Subsingleton.elim _ _
  have hg : g.val < 2 := g.isLt.trans_le k1_t5_abs.2.1
  have hk := k.isLt; have := hv k
  show (k1_pay3 g v (Shape.ofLane (d := ![16]) k)).toNat < 16384
  rw [pay3_toNat g v k this]; omega

omit [FloatOps F] in
/-- The words added to are in range. -/
theorem chk2_of (g : Fin k1_t5_loop.trips) (v : Vec F S16 .i32) (hv : ∀ k : Fin 16, (v (Shape.ofLane (d := ![16]) k)).toNat < 2048) :
    k1_chk2 (k1_pay5 g v) := by
  intro a x
  obtain ⟨k, rfl⟩ := lane_surj x
  obtain rfl : a = 0 := Subsingleton.elim _ _
  have hg : g.val < 2 := g.isLt.trans_le k1_t5_abs.2.1
  have hk := k.isLt; have := hv k
  show (k1_pay5 g v (Shape.ofLane (d := ![16]) k)).toNat < 65536
  rw [pay5_toNat g v k this]; omega

open scoped Classical in
/-- Sixteen lanes of feature `d`: the masked scatter-add brings group `g`'s rows from `d` features to `d + 1`. -/
theorem scatter_step (cb : Vec F S8192 .i32) (vb : Vec F S8192 .f32) (mb : Vec F S16384 .i32) (sub d : ℕ) (hsub : sub < 4) (hd : d < 64)
    (g : Fin k1_t5_loop.trips) (v54 : Vec F S16 .i32) (v56 : Vec F S16 .f32)
    (h54 : ∀ k : Fin 16, v54 (Shape.ofLane (d := ![16]) k) = at8192 cb (d * 128 + sub * 32 + (g.val * 16 + k.val)))
    (h56 : ∀ k : Fin 16, v56 (Shape.ofLane (d := ![16]) k) = at8192 vb (d * 128 + sub * 32 + (g.val * 16 + k.val)))
    (hcb : ∀ x, (cb x).toNat < 2048) (h1 : k1_chk1 (k1_pay3 g v54)) (h2 : k1_chk2 (k1_pay5 g v54)) :
    storeIdx (rowsG cb vb mb sub d g.val) ![k1_pay5 g v54] v56 (k1_pay4 v54 (loadIdx mb ![k1_pay3 g v54] (k1_idx1_inb _ h1))) true (k1_idx2_inb _ h2)
      = rowsG cb vb mb sub d (g.val + 1) := by
  have hg : g.val < 2 := g.isLt.trans_le k1_t5_abs.2.1
  funext j
  have hj : (j 0).val < 65536 := (j 0).isLt
  have hv : ∀ k : Fin 16, (v54 (Shape.ofLane (d := ![16]) k)).toNat < 2048 := fun k => by rw [h54]; exact hcb _
  have hword : ∀ k : Fin 16, loadIdx mb ![k1_pay3 g v54] (k1_idx1_inb _ h1) (Shape.ofLane (d := ![16]) k)
      = at16384 mb ((g.val * 16 + k.val) * 512 + (v54 (Shape.ofLane (d := ![16]) k)).toNat / 4) := fun k =>
    congrArg mb (eq_ixm _ _ _ (pay3_toNat g v54 k (hv k)))
  have hat : ∀ k : Fin 16, ((![k1_pay5 g v54] : Fin 1 → IVec S16 32) 0 (Shape.ofLane (d := ![16]) k)).toNat
      = (g.val * 16 + k.val) * 2048 + (v54 (Shape.ofLane (d := ![16]) k)).toNat := fun k => pay5_toNat g v54 k (hv k)
  by_cases hgrp : (j 0).val / 2048 / 16 = g.val
  · -- the one lane of `j`'s row
    let k : Fin 16 := ⟨(j 0).val / 2048 % 16, Nat.mod_lt _ (by decide)⟩
    have hrow : g.val * 16 + k.val = (j 0).val / 2048 := by show g.val * 16 + (j 0).val / 2048 % 16 = _; omega
    have hother : ∀ k' : Fin 16, k' ≠ k → (j 0).val ≠ ((![k1_pay5 g v54] : Fin 1 → IVec S16 32) 0 (Shape.ofLane (d := ![16]) k')).toNat := by
      intro k' hk' e
      rw [hat] at e
      have := hv k'
      exact hk' (Fin.ext (by omega))
    have hif : rowsG cb vb mb sub d (g.val + 1) j = rows cb vb mb sub (d + 1) j := by rw [rowsG, if_pos (by omega)]
    have hif' : rowsG cb vb mb sub d g.val j = rows cb vb mb sub d j := by rw [rowsG, if_neg (by omega)]
    rw [hif]
    have hsame : (v54 (Shape.ofLane (d := ![16]) k)) = at8192 cb (d * 128 + sub * 32 + (j 0).val / 2048) := by rw [h54, hrow]
    have hkeep : (v54 (Shape.ofLane (d := ![16]) k)).toNat = (j 0).val % 2048 →
        (k1_pay4 v54 (loadIdx mb ![k1_pay3 g v54] (k1_idx1_inb _ h1)) (Shape.ofLane (d := ![16]) k) = 1 ↔ keep (at16384 mb ((j 0).val / 4)) ((j 0).val % 4)) := by
      intro hc
      rw [pay4_iff, hword, hrow, hc]
      rw [show (j 0).val / 2048 * 512 + (j 0).val % 2048 / 4 = (j 0).val / 4 by omega, show (j 0).val % 2048 % 4 = (j 0).val % 4 by omega]
    by_cases hh : hits cb mb sub (j 0).val d
    · rw [storeIdx_hit (n := 16) (N := 65536) _ _ _ _ _ j k ?_ ?_ hother, hif', rows, rows, accAt, if_pos hh, h56, hrow]
      · exact (hkeep (hsame ▸ hh.1)).mpr hh.2
      · rw [hat, hrow, hsame, hh.1]; omega
    · rw [storeIdx_miss (n := 16) (N := 65536), hif', rows, rows, accAt, if_neg hh]
      intro k' hm e
      by_cases hk' : k' = k
      · subst hk'
        rw [hat, hrow] at e
        have hc : (v54 (Shape.ofLane (d := ![16]) k)).toNat = (j 0).val % 2048 := by have := hv k; omega
        exact hh ⟨hsame ▸ hc, (hkeep hc).mp hm⟩
      · exact hother k' hk' e
  · rw [storeIdx_miss (n := 16) (N := 65536)]
    · have : (j 0).val / 2048 / 16 < g.val ↔ (j 0).val / 2048 / 16 < g.val + 1 := by omega
      simp only [rowsG, this]
    · intro k' _ e
      rw [hat] at e
      have := hv k'; have := k'.isLt
      omega

/-! ## The whole output -/

/-- An element of the columns or the values. -/
abbrev atCol {α : Type} (f : S1572864.Idx → α) (n : ℕ) : α := f (ixm 1572864 (by decide) n)
/-- An element of the mask words. -/
abbrev atMsk {α : Type} (f : S12582912.Idx → α) (n : ℕ) : α := f (ixm 12582912 (by decide) n)

/-- The output: at flat position `J` the sum, over the 64 features in order, of the values whose column is `J`'s and
    whose mask byte is zero. -/
def scOut (col : Vec F S1572864 .i32) (val : Vec F S1572864 .f32) (msk : Vec F S12582912 .i32) : Vec F S50331648 .f32 := fun J =>
  accAt (fun di => (atCol col ((J 0).val / 262144 * 8192 + di * 128 + (J 0).val / 2048 % 128)).toNat = (J 0).val % 2048
      ∧ keep (atMsk msk ((J 0).val / 4)) ((J 0).val % 4))
    (fun di => atCol val ((J 0).val / 262144 * 8192 + di * 128 + (J 0).val / 2048 % 128)) 64

/-- A part's 32 rows, done, are the output's. -/
theorem rows_eq_scOut (col : Vec F S1572864 .i32) (val : Vec F S1572864 .f32) (msk : Vec F S12582912 .i32)
    (cb : Vec F S8192 .i32) (vb : Vec F S8192 .f32) (mb : Vec F S16384 .i32) (span sub : ℕ) (hspan : span < 192) (hsub : sub < 4)
    (hc : ∀ n < 8192, at8192 cb n = atCol col (span * 8192 + n)) (hv : ∀ n < 8192, at8192 vb n = atCol val (span * 8192 + n))
    (hm : ∀ n < 16384, at16384 mb n = atMsk msk (span * 65536 + sub * 16384 + n))
    (j : S65536.Idx) (J : S50331648.Idx) (hJ : (J 0).val = span * 262144 + sub * 65536 + (j 0).val) :
    rows cb vb mb sub 64 j = scOut col val msk J := by
  have hj : (j 0).val < 65536 := (j 0).isLt
  rw [rows, scOut]
  have e1 : (J 0).val / 262144 = span := by omega
  have e2 : (J 0).val / 2048 % 128 = sub * 32 + (j 0).val / 2048 := by omega
  have e3 : (J 0).val % 2048 = (j 0).val % 2048 := by omega
  have e4 : (J 0).val / 4 = span * 65536 + sub * 16384 + (j 0).val / 4 := by omega
  have e5 : (J 0).val % 4 = (j 0).val % 4 := by omega
  rw [e1, e2, e3, e4, e5]
  apply accAt_congr
  · intro k hk
    rw [hits, hc _ (by omega), hm _ (by omega)]
    rw [show span * 8192 + (k * 128 + sub * 32 + (j 0).val / 2048) = span * 8192 + k * 128 + (sub * 32 + (j 0).val / 2048) by omega]
  · intro k hk
    rw [hv _ (by omega)]
    rw [show span * 8192 + (k * 128 + sub * 32 + (j 0).val / 2048) = span * 8192 + k * 128 + (sub * 32 + (j 0).val / 2048) by omega]

/-! ## The two offsets that have no printed closed form -/

/-- Where a part's mask words begin. -/
theorem off2_eq : ∀ (i : grid1.Coords) (t : Fin k1_t1_loop.trips) (s : Fin k1_t2_loop.trips),
    k1_off2 i t s = ![131072 * (i 1).val + 65536 * (i 0).val + 2097152 * t.val + 16384 * s.val] := by decide +kernel

/-- Where a part's window of the output begins. -/
theorem off5_eq : ∀ (i : grid1.Coords) (t : Fin k1_t1_loop.trips) (s : Fin k1_t2_loop.trips),
    k1_off5 i t s = ![524288 * (i 1).val + 262144 * (i 0).val + 8388608 * t.val + 65536 * s.val] := by decide +kernel

end Cert.Proof.ScVal
-- ==== Proof.Base.lean ====
/-
  The launch of the kernel as the proof sees it: the resource algebra, the buffers the SparseCore call works on, and
  the arithmetic of which positions of the output a task writes and when.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.ScVal

@[expose] public section

noncomputable section

namespace Cert.Proof.Base

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.ScVal

variable {F : FTy → Type}

/-! ## The program as the launch theorem sees it -/

/-- The labels of the calls. -/
abbrev ΛP : Labels := Pipeline.Sig Λ₀ (Fin 1) fun p => (pcfgs (F := F) p).Adm
/-- The SparseCore call's configuration. -/
abbrev K [FloatOps F] : SparseCore.Cfg τ sig (ΛP (F := F)) 1 := sc (F := F)
/-- Sixteen subcores take part. -/
theorem nSub_zero [FloatOps F] : (K (F := F)).nSub 0 = 16 := rfl
/-- Two SparseCores take part. -/
theorem nCore_zero [FloatOps F] : (K (F := F)).nCore 0 = 2 := rfl
/-- The bodies, with the pipelined call's. -/
abbrev D [FloatOps F] : Defs nD τ sig (Elt F) (ΛP (F := F)) := Pipeline.defs pcfgs defs₀
/-- No variants are counted. -/
abbrev 𝒱₀ : Variants := Variants.none
/-- None, with the call's own. -/
abbrev 𝒱 : Variants := 𝒱₀.lift
/-- The only variant. -/
abbrev v₀ : 𝒱.V := Sum.inl none

/-- The handshakes' semaphores are apart from each other, and no scoped buffer is shared with a task. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the pipeline's, the transfers' counters -/

/-- The handshakes' rounds. -/
abbrev UH : Type := URounds (GSem nD τ sig) ℕ
/-- Those, the pipeline's part and the transfers' counters. -/
abbrev UU : Type := UH × (UR sig nD τ × Counters)

local notation "𝕄" => MT nD τ sig (HIx 1) (Elt F) ℕ UU ℕ

/-- Where the handshakes' part of the algebra lies. -/
abbrev EH : Emb UH (MT nD τ sig (HIx 1) (Elt F) ℕ UU ℕ) := embL
/-- Where the pipeline's part of the algebra lies. -/
def EP : Emb (UR sig nD τ) (MT nD τ sig (HIx 1) (Elt F) ℕ UU ℕ) := (Emb.inl : Emb (UR sig nD τ) (UR sig nD τ × Counters)).trans embR

instance EP_landsIn : (EP (F := F) : Emb (UR sig nD τ) (MT nD τ sig (HIx 1) (Elt F) ℕ UU ℕ)).LandsIn
    (upEmb : UEmb _ (MT nD τ sig (HIx 1) (Elt F) ℕ UU ℕ)) := by
  unfold EP embR; infer_instance

/-! ## The four buffers of the SparseCore call -/

/-- The target columns, as the TensorCore names them. -/
abbrev colLoc (d : Dev nD) : Loc nD τ sig := (SparseCore.T d).loc main_v15
/-- The values, as the TensorCore names them. -/
abbrev valLoc (d : Dev nD) : Loc nD τ sig := (SparseCore.T d).loc main_v18
/-- The mask words, as the TensorCore names them. -/
abbrev mskLoc (d : Dev nD) : Loc nD τ sig := (SparseCore.T d).loc main_v22
/-- The output, as the TensorCore names it. -/
abbrev outLoc (d : Dev nD) : Loc nD τ sig := (SparseCore.T d).loc main_v23

/-- The target columns, as a subcore names them. -/
abbrev colV : Memref sig .scVector .hbm S1572864 .i32 := Memref.whole main_v15_scv
/-- The values, as a subcore names them. -/
abbrev valV : Memref sig .scVector .hbm S1572864 .f32 := Memref.whole main_v18_scv
/-- The mask words, as a subcore names them. -/
abbrev mskV : Memref sig .scVector .hbm S12582912 .i32 := Memref.whole main_v22_scv
/-- The output, as a subcore names it. -/
abbrev outV : Memref sig .scVector .hbm S50331648 .f32 := Memref.whole main_v23_scv
/-- A subcore's scratch for a span's columns. -/
abbrev colS : Memref sig .scVector .vmem S8192 .i32 := Memref.whole cc1_scratch0
/-- A subcore's scratch for a span's values. -/
abbrev valS : Memref sig .scVector .vmem S8192 .f32 := Memref.whole cc1_scratch1
/-- A subcore's scratch for the mask words of 32 rows. -/
abbrev mskS : Memref sig .scVector .vmem S16384 .i32 := Memref.whole cc1_scratch2
/-- A subcore's scratch for 32 rows of the output. -/
abbrev outS : Memref sig .scVector .vmem S65536 .f32 := Memref.whole cc1_scratch3

/-- The SparseCore of the task at `L`. -/
abbrev cV (L : grid1.Coords) : Fin τ.nSC := (L 0).castLE hcore1
/-- The subcore of the task at `L`. -/
abbrev jV (L : grid1.Coords) : Fin τ.nSub := (L 1).castLE hsub1

/-- The number of the task at `L`: two tasks per subcore number. -/
def wid (L : grid1.Coords) : ℕ := 2 * (L 1).val + (L 0).val

/-- There are thirty-two tasks. -/
theorem wid_lt (L : grid1.Coords) : wid L < 32 := by
  have h0 : (L 0).val < 2 := (L 0).isLt
  have h1 : (L 1).val < 16 := (L 1).isLt
  unfold wid; omega

/-- The positions of the output that task `w` writes. -/
def tileSet (w : ℕ) : Finset S50331648.Idx := Finset.univ.filter fun J => (J 0).val / 262144 % 32 = w

/-- The positions that part `s` of trip `t` of task `w` writes. -/
def partSet (w t s : ℕ) : Finset S50331648.Idx := Finset.univ.filter fun J => (J 0).val / 65536 = (w + 32 * t) * 4 + s

/-- At which step of its task a position is written: four parts to a trip. -/
def stepOf (J : S50331648.Idx) : ℕ := (J 0).val / 262144 / 32 * 4 + (J 0).val / 65536 % 4

variable [FloatOps F]

/-- The output with the positions of the first `n` steps done. -/
def doneTo (col : Vec F S1572864 .i32) (val : Vec F S1572864 .f32) (msk : Vec F S12582912 .i32) (f : Vec F S50331648 .f32) (n : ℕ) :
    Vec F S50331648 .f32 := fun J => if stepOf J < n then scOut col val msk J else f J

/-- A part's positions are its task's. -/
theorem partSet_subset {w t s : ℕ} (hw : w < 32) (hs : s < 4) : partSet w t s ⊆ tileSet w := by
  intro J hJ
  simp only [partSet, tileSet, Finset.mem_filter, Finset.mem_univ, true_and] at hJ ⊢
  omega

/-- A part's positions are written at its step. -/
theorem stepOf_part {w t s : ℕ} (hw : w < 32) (hs : s < 4) {J : S50331648.Idx} (hJ : J ∈ partSet w t s) : stepOf J = 4 * t + s := by
  simp only [partSet, stepOf, Finset.mem_filter, Finset.mem_univ, true_and] at hJ ⊢
  omega

/-- No other position of the task is written at that step. -/
theorem stepOf_not_part {w t s : ℕ} (hw : w < 32) (hs : s < 4) {J : S50331648.Idx} (hJ : J ∈ tileSet w) (hn : J ∉ partSet w t s) :
    stepOf J ≠ 4 * t + s := by
  simp only [partSet, tileSet, stepOf, Finset.mem_filter, Finset.mem_univ, true_and] at hJ hn ⊢
  omega

/-- A task has twenty-four steps. -/
theorem stepOf_lt (J : S50331648.Idx) : stepOf J < 24 := by
  have : (J 0).val < 50331648 := (J 0).isLt
  unfold stepOf; omega

/-- Outside the part just written nothing changes between a step and the next. -/
theorem doneTo_off (col : Vec F S1572864 .i32) (val : Vec F S1572864 .f32) (msk : Vec F S12582912 .i32) (f : Vec F S50331648 .f32)
    {w t s : ℕ} (hw : w < 32) (hs : s < 4) {J : S50331648.Idx} (hJ : J ∈ tileSet w \ partSet w t s) :
    doneTo col val msk f (4 * t + s) J = doneTo col val msk f (4 * t + s + 1) J := by
  have := stepOf_not_part hw hs (Finset.mem_sdiff.mp hJ).1 (Finset.mem_sdiff.mp hJ).2
  unfold doneTo
  have e : stepOf J < 4 * t + s ↔ stepOf J < 4 * t + s + 1 := by omega
  simp only [e]

/-- After its step, a part holds the output. -/
theorem doneTo_on (col : Vec F S1572864 .i32) (val : Vec F S1572864 .f32) (msk : Vec F S12582912 .i32) (f : Vec F S50331648 .f32)
    {w t s : ℕ} (hw : w < 32) (hs : s < 4) {J : S50331648.Idx} (hJ : J ∈ partSet w t s) :
    doneTo col val msk f (4 * t + s + 1) J = scOut col val msk J := by
  rw [doneTo, if_pos (by rw [stepOf_part hw hs hJ]; omega)]

/-- Before the first step nothing is done. -/
theorem doneTo_zero (col : Vec F S1572864 .i32) (val : Vec F S1572864 .f32) (msk : Vec F S12582912 .i32) (f : Vec F S50331648 .f32) :
    doneTo col val msk f 0 = f := by funext J; simp [doneTo]

/-- After the last step all is done. -/
theorem doneTo_end (col : Vec F S1572864 .i32) (val : Vec F S1572864 .f32) (msk : Vec F S12582912 .i32) (f : Vec F S50331648 .f32) :
    doneTo col val msk f 24 = scOut col val msk := by funext J; rw [doneTo, if_pos (stepOf_lt J)]

/-- The rows of scratch, from the zeroing loop: the first `16 n` words are zero. -/
def zeroTo (f : Vec F S65536 .f32) (n : ℕ) : Vec F S65536 .f32 := fun j =>
  if (j 0).val < 16 * n then Scalar.ofBits .f32 0x00000000#32 else f j

/-- Before the first trip nothing is zeroed. -/
theorem zeroTo_zero (f : Vec F S65536 .f32) : zeroTo f 0 = f := by funext j; simp [zeroTo]
/-- After the last trip the scratch holds the sums of no feature. -/
theorem zeroTo_end (f : Vec F S65536 .f32) (cb : Vec F S8192 .i32) (vb : Vec F S8192 .f32) (mb : Vec F S16384 .i32) (sub : ℕ) :
    zeroTo f 4096 = rows cb vb mb sub 0 := by
  funext j
  have : (j 0).val < 65536 := (j 0).isLt
  rw [zeroTo, if_pos (by omega)]; rfl

end Cert.Proof.Base
-- ==== Proof.Tile.lean ====
/-
  The SparseCore task: one vector subcore's run of the scatter kernel, with the value it leaves in the output.
-/
module

public import proofs.«01_k».proof.Proof.Base

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.ScVal Cert.Proof.Base

variable {F : FTy → Type} [FloatOps F]

local notation "𝕄" => MT nD τ sig (HIx 1) (Elt F) ℕ UU ℕ

variable (d : Dev nD) (L : grid1.Coords)

/-- The thread of the task. -/
abbrev tV : Thread nD τ := V d (cV L) (jV L)

/-! ## Sixteen words of a scratch buffer, read -/

omit [FloatOps F] in
/-- Sixteen columns read from scratch, lane by lane. -/
theorem ld_col (off : Fin 1 → ℕ) (h) (f : Vec F S8192 .i32) (k : Fin 16) :
    (colS.view.readAt (Elt F) (Rect.unit (s := S8192) off S16.size h).toLoadRect f) (Shape.ofLane (d := ![16]) k)
      = at8192 f (off 0 + k) := by
  refine congrArg f (eq_ixm (N := 8192) (by decide) ((Rect.unit (s := S8192) off S16.size h).toLoadRect.idx (Shape.ofLane (d := ![16]) k)) _ ?_)
  show off 0 + 1 * k.val = _
  omega

omit [FloatOps F] in
/-- Sixteen values read from scratch, lane by lane. -/
theorem ld_val (off : Fin 1 → ℕ) (h) (f : Vec F S8192 .f32) (k : Fin 16) :
    (valS.view.readAt (Elt F) (Rect.unit (s := S8192) off S16.size h).toLoadRect f) (Shape.ofLane (d := ![16]) k)
      = at8192 f (off 0 + k) := by
  refine congrArg f (eq_ixm (N := 8192) (by decide) ((Rect.unit (s := S8192) off S16.size h).toLoadRect.idx (Shape.ofLane (d := ![16]) k)) _ ?_)
  show off 0 + 1 * k.val = _
  omega

/-! ## The bodies of the loops, at the task's operands -/

/-- The zeroing loop's body. -/
abbrev b3 := k1_t3_body (F := F) L colV (Memref.isWhole_whole _) valV (Memref.isWhole_whole _) mskV (Memref.isWhole_whole _) outV (Memref.isWhole_whole _)
  colS (Memref.isWhole_whole _) valS (Memref.isWhole_whole _) mskS (Memref.isWhole_whole _) outS (Memref.isWhole_whole _) cc1_scoped0 cc1_scoped1 cc1_scoped2 cc1_scoped3
/-- The body of the loop over the half-rows. -/
abbrev b5 := k1_t5_body (F := F) L colV (Memref.isWhole_whole _) valV (Memref.isWhole_whole _) mskV (Memref.isWhole_whole _) outV (Memref.isWhole_whole _)
  colS (Memref.isWhole_whole _) valS (Memref.isWhole_whole _) mskS (Memref.isWhole_whole _) outS (Memref.isWhole_whole _) cc1_scoped0 cc1_scoped1 cc1_scoped2 cc1_scoped3
/-- The body of the loop over the features. -/
abbrev b4 := k1_t4_body (F := F) L colV (Memref.isWhole_whole _) valV (Memref.isWhole_whole _) mskV (Memref.isWhole_whole _) outV (Memref.isWhole_whole _)
  colS (Memref.isWhole_whole _) valS (Memref.isWhole_whole _) mskS (Memref.isWhole_whole _) outS (Memref.isWhole_whole _) cc1_scoped0 cc1_scoped1 cc1_scoped2 cc1_scoped3
/-- The body of the loop over a trip's parts. -/
abbrev b2 := k1_t2_body (F := F) L colV (Memref.isWhole_whole _) valV (Memref.isWhole_whole _) mskV (Memref.isWhole_whole _) outV (Memref.isWhole_whole _)
  colS (Memref.isWhole_whole _) valS (Memref.isWhole_whole _) mskS (Memref.isWhole_whole _) outS (Memref.isWhole_whole _) cc1_scoped0 cc1_scoped1 cc1_scoped2 cc1_scoped3
/-- The body of the loop over a task's trips. -/
abbrev b1 := k1_t1_body (F := F) L colV (Memref.isWhole_whole _) valV (Memref.isWhole_whole _) mskV (Memref.isWhole_whole _) outV (Memref.isWhole_whole _)
  colS (Memref.isWhole_whole _) valS (Memref.isWhole_whole _) mskS (Memref.isWhole_whole _) outS (Memref.isWhole_whole _) cc1_scoped0 cc1_scoped1 cc1_scoped2 cc1_scoped3

/-- What the zeroing loop keeps. -/
def I3 (f : Vec F S65536 .f32) (n : ℕ) (_ : PUnit) : sProp 𝕄 :=
  (outS.view.loc (tV d L) ↦{fullShare} zeroTo f n)

/-- A trip of the zeroing loop zeroes the next sixteen words. -/
theorem zero_step (f : Vec F S65536 .f32) (k : Fin k1_t3_loop.trips) :
    (outS.access (Rect.unit (s := S65536) (k1_off3 k) S16.size (k1_off3_inb k))).write (Elt F) (zeroTo f k.val) (k1_pay1 (F := F)) Finset.univ
      = zeroTo f (k.val + 1) := by
  funext j
  have h3 := congrFun (k1_off3_eq k) 0
  have h3' : k1_off3 k 0 = 16 * k.val := h3
  by_cases hj : 16 * k.val ≤ (j 0).val ∧ (j 0).val < 16 * k.val + 16
  · obtain ⟨hj1, hj2⟩ := hj
    have hx : (outS.access (Rect.unit (s := S65536) (k1_off3 k) S16.size (k1_off3_inb k))).emb
        (Shape.ofLane (d := ![16]) (⟨(j 0).val - 16 * k.val, by omega⟩ : Fin 16)) = j := by
      refine funext fun (a : Fin 1) => Fin.ext ?_
      obtain rfl : a = 0 := Subsingleton.elim _ _
      show k1_off3 k 0 + 1 * ((j 0).val - 16 * k.val) = (j 0).val
      omega
    conv_lhs => rw [← hx]
    refine (View.write_emb_of_mem _ _ (Finset.mem_univ _)).trans ?_
    rw [zeroTo, if_pos (by omega)]
    rfl
  · refine (View.write_of_not_mem _ _ _ ?_).trans ?_
    · intro hm
      obtain ⟨x, -, hx⟩ := Finset.mem_map.mp hm
      have hx' : k1_off3 k 0 + 1 * (x 0).val = (j 0).val := congrArg (fun z : S65536.Idx => (z 0).val) hx
      have hx16 : (x 0).val < 16 := (x 0).isLt
      omega
    · have e : (j 0).val < 16 * k.val ↔ (j 0).val < 16 * (k.val + 1) := by omega
      simp only [zeroTo, e]

/-- A trip of the zeroing loop runs. -/
theorem t3_step (f : Vec F S65536 .f32) (k : Fin k1_t3_loop.trips) (acc : PUnit) :
    I3 d L f k.val acc ⊢ wp frame (wpE (defs₀ (F := F)) 𝒱₀ (tV d L) none) Set.univ (b3 L k acc) (I3 d L f (k.val + 1)) := by
  unfold I3 b3 k1_t3_body
  iintro H
  sl_exec
  sl_step
  rw [← zero_step]
  iexact H

/-- What the loops over the half-rows keep: the three buffers read, and the rows scattered so far. -/
def I5 (cb : Vec F S8192 .i32) (vb : Vec F S8192 .f32) (mb : Vec F S16384 .i32) (sub dd : ℕ) (n : ℕ) (_ : PUnit) : sProp 𝕄 :=
  iprop((colS.view.loc (tV d L) ↦{fullShare} cb) ∗ (valS.view.loc (tV d L) ↦{fullShare} vb) ∗ (mskS.view.loc (tV d L) ↦{fullShare} mb)
    ∗ (outS.view.loc (tV d L) ↦{fullShare} rowsG cb vb mb sub dd n))

set_option maxHeartbeats 1000000 in
/-- A trip of the loop over the half-rows runs: it adds one feature's values for sixteen rows. -/
theorem t5_step (cb : Vec F S8192 .i32) (vb : Vec F S8192 .f32) (mb : Vec F S16384 .i32) (hcb : ∀ x, (cb x).toNat < 2048)
    (t2 : Fin k1_t2_loop.trips) (t4 : Fin k1_t4_loop.trips) (k : Fin k1_t5_loop.trips) (acc : PUnit) :
    I5 d L cb vb mb t2.val t4.val k.val acc
      ⊢ wp frame (wpE (defs₀ (F := F)) 𝒱₀ (tV d L) none) Set.univ (b5 L t2 t4 k acc) (I5 d L cb vb mb t2.val t4.val (k.val + 1)) := by
  unfold I5 b5 k1_t5_body
  have h2 : t2.val < 4 := t2.isLt.trans_le k1_t2_abs.2.1
  have h4 : t4.val < 64 := t4.isLt.trans_le k1_t4_abs.2.1
  have hoff : k1_off4 t2 t4 k 0 = t4.val * 128 + t2.val * 32 + 16 * k.val := by
    have := congrFun (k1_off4_eq t2 t4 k) 0
    have h : k1_off4 t2 t4 k 0 = 128 * t4.val + 32 * t2.val + 16 * k.val := this
    omega
  have e54 : ∀ x : Fin 16, (colS.view.readAt (Elt F) (Rect.unit (s := S8192) (k1_off4 t2 t4 k) S16.size (k1_off4_inb t2 t4 k)).toLoadRect cb) (Shape.ofLane (d := ![16]) x)
      = at8192 cb (t4.val * 128 + t2.val * 32 + (k.val * 16 + x.val)) := fun x => by
    rw [ld_col, hoff]; exact congrArg (fun n => at8192 cb n) (by omega)
  have e56 : ∀ x : Fin 16, (valS.view.readAt (Elt F) (Rect.unit (s := S8192) (k1_off4 t2 t4 k) S16.size (k1_off4_inb t2 t4 k)).toLoadRect vb) (Shape.ofLane (d := ![16]) x)
      = at8192 vb (t4.val * 128 + t2.val * 32 + (k.val * 16 + x.val)) := fun x => by
    rw [ld_val, hoff]; exact congrArg (fun n => at8192 vb n) (by omega)
  have hv : ∀ x : Fin 16, ((colS.view.readAt (Elt F) (Rect.unit (s := S8192) (k1_off4 t2 t4 k) S16.size (k1_off4_inb t2 t4 k)).toLoadRect cb) (Shape.ofLane (d := ![16]) x)).toNat < 2048 :=
    fun x => by rw [e54]; exact hcb _
  have hc1 := chk1_of (F := F) k _ hv
  have hc2 := chk2_of (F := F) k _ hv
  have hset : (outS.access (.whole S65536)).set = Finset.univ := Memref.set_access_whole _
  iintro ⟨Hc, Hv, Hm, Ho⟩
  simp only [Prog.lift, Prog.bind_op, Prog.bind_ret, Prog.pure_eq_ret]
  iapply (wp_load 𝒱₀ (tV d L) none Set.univ (m := colS) (S := Finset.univ) (q := fullShare) (Finset.subset_univ _)) $$ Hc
  iintro Hc
  iapply (wp_load 𝒱₀ (tV d L) none Set.univ (m := valS) (S := Finset.univ) (q := fullShare) (Finset.subset_univ _)) $$ Hv
  iintro Hv
  rw [wp_assume_of _ _ _ _ hc1]
  iapply (SparseCore.wp_vectorLoadIdx 𝒱₀ (tV d L) none Set.univ (base := mskS) (S := Finset.univ) (q := fullShare) (Finset.subset_univ _)) $$ Hm
  iintro Hm
  rw [wp_assume_of _ _ _ _ hc2]
  ihave Ho' := (Entails.of_eq (show (outS.view.loc (tV d L) ↦{fullShare} rowsG cb vb mb t2.val t4.val k.val : sProp 𝕄)
      = ((outS.access (.whole S65536)).loc (tV d L) ↦[(outS.access (.whole S65536)).set]{fullShare} rowsG cb vb mb t2.val t4.val k.val) by rw [hset])) $$ Ho
  iapply (SparseCore.wp_vectorStoreIdx 𝒱₀ (tV d L) none Set.univ (base := outS)) $$ Ho'
  iintro Ho
  sl_step
  isplitl [Hc]; · iexact Hc
  isplitl [Hv]; · iexact Hv
  isplitl [Hm]; · iexact Hm
  rw [← scatter_step cb vb mb t2.val t4.val h2 h4 k _ _ e54 e56 hcb hc1 hc2]
  rw [hset]
  iapply (Entails.of_eq ?_) $$ Ho
  refine congrArg (fun g => (outS.view.loc (tV d L) ↦{fullShare} g : sProp 𝕄)) ?_
  refine (Memref.write_access_whole_univ (Elt F) _ _ _).trans ?_
  have e1 : (outS.access (.whole S65536)).read (Elt F) (rowsG cb vb mb t2.val t4.val k.val) = rowsG cb vb mb t2.val t4.val k.val :=
    Memref.read_access_whole (Elt F) _ _
  have e2 : (mskS.access (.whole S16384)).read (Elt F) mb = mb := Memref.read_access_whole (Elt F) _ _
  rw [e1, e2]

/-- What the loop over the features keeps. -/
def I4 (cb : Vec F S8192 .i32) (vb : Vec F S8192 .f32) (mb : Vec F S16384 .i32) (sub : ℕ) (n : ℕ) (_ : PUnit) : sProp 𝕄 :=
  iprop((colS.view.loc (tV d L) ↦{fullShare} cb) ∗ (valS.view.loc (tV d L) ↦{fullShare} vb) ∗ (mskS.view.loc (tV d L) ↦{fullShare} mb)
    ∗ (outS.view.loc (tV d L) ↦{fullShare} rows cb vb mb sub n))

/-- With no half done, a feature is not in yet. -/
theorem I5_zero (cb : Vec F S8192 .i32) (vb : Vec F S8192 .f32) (mb : Vec F S16384 .i32) (sub n : ℕ) (a : PUnit) :
    I5 d L cb vb mb sub n 0 a = I4 d L cb vb mb sub n a := by unfold I5 I4; rw [rowsG_zero]

/-- With both halves done, the feature is in. -/
theorem I5_two (cb : Vec F S8192 .i32) (vb : Vec F S8192 .f32) (mb : Vec F S16384 .i32) (sub n : ℕ) (a : PUnit) :
    I5 d L cb vb mb sub n 2 a = I4 d L cb vb mb sub (n + 1) a := by unfold I5 I4; rw [rowsG_two]

/-- Two groups of sixteen rows. -/
theorem trips5 : k1_t5_loop.trips = 2 := by decide +kernel
/-- Sixty-four features. -/
theorem trips4 : k1_t4_loop.trips = 64 := by decide +kernel
/-- As many zeroed groups of sixteen as fill the scratch. -/
theorem trips3 : k1_t3_loop.trips = 4096 := by decide +kernel
/-- Four parts to a trip. -/
theorem trips2 : k1_t2_loop.trips = 4 := by decide +kernel
/-- Six trips to a task. -/
theorem trips1 : k1_t1_loop.trips = 6 := by decide +kernel

/-- A trip of the loop over the features runs. -/
theorem t4_step (cb : Vec F S8192 .i32) (vb : Vec F S8192 .f32) (mb : Vec F S16384 .i32) (hcb : ∀ x, (cb x).toNat < 2048)
    (t2 : Fin k1_t2_loop.trips) (k : Fin k1_t4_loop.trips) (acc : PUnit) :
    I4 d L cb vb mb t2.val k.val acc
      ⊢ wp frame (wpE (defs₀ (F := F)) 𝒱₀ (tV d L) none) Set.univ (b4 L t2 k acc) (I4 d L cb vb mb t2.val (k.val + 1)) := by
  unfold b4 k1_t4_body
  iintro H
  iapply (Scf.wp_for_bind _ _ _ _ _ _ _ _ _ (I5 d L cb vb mb t2.val k.val) (fun k5 acc => t5_step d L cb vb mb hcb t2 k k5 acc)) $$ [H]
  · rw [I5_zero]; iexact H
  iintro %a H
  sl_step
  iapply (Entails.of_eq (show I5 d L cb vb mb t2.val k.val k1_t5_loop.trips a = I4 d L cb vb mb t2.val (k.val + 1) a by
    rw [trips5]; exact I5_two d L cb vb mb t2.val k.val a)) $$ H

/-! ## A part of a trip -/

/-- The window of the output that part `t2` of trip `t1` writes. -/
abbrev outW (t1 : Fin k1_t1_loop.trips) (t2 : Fin k1_t2_loop.trips) : Memref sig .scVector .hbm S65536 .f32 :=
  outV.slice (Rect.unit (s := S50331648) (k1_off5 L t1 t2) S65536.size (k1_off5_inb L t1 t2)) (fun _ => rfl)
/-- The words of the mask it reads. -/
abbrev mskW (t1 : Fin k1_t1_loop.trips) (t2 : Fin k1_t2_loop.trips) : Memref sig .scVector .hbm S16384 .i32 :=
  mskV.slice (Rect.unit (s := S12582912) (k1_off2 L t1 t2) S16384.size (k1_off2_inb L t1 t2)) (fun _ => rfl)

omit [FloatOps F] in
/-- Where a part's window of the output begins. -/
theorem off5_0 (t1 : Fin k1_t1_loop.trips) (t2 : Fin k1_t2_loop.trips) :
    k1_off5 L t1 t2 0 = (wid L + 32 * t1.val) * 262144 + t2.val * 65536 := by
  have h := congrFun (off5_eq L t1 t2) 0
  have h' : k1_off5 L t1 t2 0 = 524288 * (L 1).val + 262144 * (L 0).val + 8388608 * t1.val + 65536 * t2.val := h
  rw [h', wid]; ring

omit [FloatOps F] in
/-- Where a part's mask words begin. -/
theorem off2_0 (t1 : Fin k1_t1_loop.trips) (t2 : Fin k1_t2_loop.trips) :
    k1_off2 L t1 t2 0 = (wid L + 32 * t1.val) * 65536 + t2.val * 16384 := by
  have h := congrFun (off2_eq L t1 t2) 0
  have h' : k1_off2 L t1 t2 0 = 131072 * (L 1).val + 65536 * (L 0).val + 2097152 * t1.val + 16384 * t2.val := h
  rw [h', wid]; ring

omit [FloatOps F] in
/-- Where a trip's columns and values begin. -/
theorem off1_0 (t1 : Fin k1_t1_loop.trips) : k1_off1 L t1 0 = (wid L + 32 * t1.val) * 8192 := by
  have h := congrFun (k1_off1_eq L t1) 0
  have h' : k1_off1 L t1 0 = 16384 * (L 1).val + 8192 * (L 0).val + 262144 * t1.val := h
  rw [h', wid]; ring

omit [FloatOps F] in
/-- A part's window is its positions. -/
theorem outW_set (t1 : Fin k1_t1_loop.trips) (t2 : Fin k1_t2_loop.trips) : (outW L t1 t2).view.set = partSet (wid L) t1.val t2.val := by
  have h2 : t2.val < 4 := t2.isLt.trans_le k1_t2_abs.2.1
  refine (View.set_slice_whole _ _).trans ?_
  ext J
  rw [Rect.mem_set_unit]
  simp only [partSet, Finset.mem_filter, Finset.mem_univ, true_and]
  have h0 := off5_0 L t1 t2
  constructor
  · intro h
    have h1 : k1_off5 L t1 t2 0 ≤ (J 0).val ∧ (J 0).val < k1_off5 L t1 t2 0 + 65536 := h 0
    omega
  · intro h (a : Fin 1)
    obtain rfl : a = 0 := Subsingleton.elim a (0 : Fin 1)
    show k1_off5 L t1 t2 0 ≤ (J 0).val ∧ (J 0).val < k1_off5 L t1 t2 0 + 65536
    omega

/-- The words of the mask as a copy lands them. -/
def mskAt (msk : Vec F S12582912 .i32) (t1 : Fin k1_t1_loop.trips) (t2 : Fin k1_t2_loop.trips) : Vec F S16384 .i32 :=
  (mskW L t1 t2).view.read (Elt F) msk

/-- A mask word as landed, among all of them. -/
theorem mskAt_apply (msk : Vec F S12582912 .i32) (t1 : Fin k1_t1_loop.trips) (t2 : Fin k1_t2_loop.trips) (n : ℕ) (hn : n < 16384) :
    at16384 (mskAt L msk t1 t2) n = atMsk msk ((wid L + 32 * t1.val) * 65536 + t2.val * 16384 + n) := by
  refine congrArg msk (eq_ixm (N := 12582912) (by decide) ((mskW L t1 t2).view.emb (ixm 16384 (by decide) n)) _ ?_)
  have h0 := off2_0 L t1 t2
  have hx : (ixm 16384 (by decide) n 0).val = n := Nat.mod_eq_of_lt hn
  show k1_off2 L t1 t2 0 + 1 * (ixm 16384 _ n 0).val = _
  rw [hx]; omega

/-- The window written whole, at a position of it. -/
theorem part_written (t1 : Fin k1_t1_loop.trips) (t2 : Fin k1_t2_loop.trips) (f : Vec F S50331648 .f32) (w : Vec F S65536 .f32)
    (J : S50331648.Idx) (hJ : J ∈ partSet (wid L) t1.val t2.val) {y : Elt F .f32}
    (hw : ∀ j : S65536.Idx, (J 0).val = (wid L + 32 * t1.val) * 262144 + t2.val * 65536 + (j 0).val → w j = y) :
    (outW L t1 t2).view.writes (Elt F) f [⟨Rect.whole S65536, w⟩] J = y := by
  rw [← outW_set] at hJ
  obtain ⟨j, -, rfl⟩ := Finset.mem_map.mp hJ
  rw [View.writes_singleton]
  have he : ((outW L t1 t2).view.slice (Rect.whole S65536)).emb j = (outW L t1 t2).view.emb j :=
    congrArg (outW L t1 t2).view.emb (Rect.emb_whole_apply S65536 j)
  rw [← he]
  refine (View.write_emb_of_mem _ _ (Finset.mem_univ _)).trans ?_
  refine (cast_eq _ _).trans (hw j ?_)
  show k1_off5 L t1 t2 0 + 1 * (j 0).val = _
  rw [off5_0]; omega

omit [FloatOps F] in
/-- One more wait recorded, of no handshake's. -/
theorem waits_step {W W' : Waits sig (HIx 1)} {s} (h : ∀ p ∈ W', p ∈ W ∨ p.2 = none) : ∀ p ∈ insert (s, (default : HIx 1)) W', p ∈ W ∨ p.2 = none := by
  intro p hp
  rcases Finset.mem_insert.mp hp with hp | hp
  · exact .inr (hp ▸ rfl)
  · exact h p hp

/-- What the loop over a trip's parts keeps. -/
def I2 (col : Vec F S1572864 .i32) (val : Vec F S1572864 .f32) (msk : Vec F S12582912 .i32) (f : Vec F S50331648 .f32) (q : PosShare TreeShare)
    (O : CellTallies nD τ sig (HIx 1)) (W : Waits sig (HIx 1)) (t1 : ℕ) (cb : Vec F S8192 .i32) (vb : Vec F S8192 .f32) (n : ℕ) (_ : PUnit) : sProp 𝕄 :=
  iprop(Transfers.MayWaits (tV d L) (default : HIx 1) O
    ∗ (mskV.view.loc (tV d L) ↦{q} msk)
    ∗ (outV.view.loc (tV d L) ↦[tileSet (wid L)]{fullShare} doneTo col val msk f (4 * t1 + n))
    ∗ (colS.view.loc (tV d L) ↦{fullShare} cb) ∗ (valS.view.loc (tV d L) ↦{fullShare} vb)
    ∗ (∃ g, mskS.view.loc (tV d L) ↦{fullShare} g) ∗ (∃ g, outS.view.loc (tV d L) ↦{fullShare} g)
    ∗ semVal (tV d L, SemLoc.dma cc1_scoped2.sem) 0 ∗ semVal (tV d L, SemLoc.dma cc1_scoped3.sem) 0
    ∗ ∃ W', ⌜∀ p ∈ W', p ∈ W ∨ p.2 = none⌝ ∗ owes (tV d L) O W')

set_option maxHeartbeats 4000000 in
/-- A part runs: the mask words in, the scratch zeroed, every feature added, the rows out. -/
theorem t2_step (col : Vec F S1572864 .i32) (val : Vec F S1572864 .f32) (msk : Vec F S12582912 .i32) (f : Vec F S50331648 .f32)
    (q : PosShare TreeShare) (O : CellTallies nD τ sig (HIx 1)) (W : Waits sig (HIx 1)) (t1 : Fin k1_t1_loop.trips) (cb : Vec F S8192 .i32) (vb : Vec F S8192 .f32)
    (hcb : ∀ x, (cb x).toNat < 2048)
    (hc : ∀ n < 8192, at8192 cb n = atCol col ((wid L + 32 * t1.val) * 8192 + n)) (hv : ∀ n < 8192, at8192 vb n = atCol val ((wid L + 32 * t1.val) * 8192 + n))
    (k : Fin k1_t2_loop.trips) (acc : PUnit) :
    I2 d L col val msk f q O W t1.val cb vb k.val acc
      ⊢ wp frame (wpE (defs₀ (F := F)) 𝒱₀ (tV d L) none) Set.univ (b2 L t1 k acc) (I2 d L col val msk f q O W t1.val cb vb (k.val + 1)) := by
  unfold b2 k1_t2_body
  unfold I2
  have h2 : k.val < 4 := k.isLt.trans_le k1_t2_abs.2.1
  have h1 : t1.val < 6 := t1.isLt.trans_le k1_t1_abs.2.1
  have hw := wid_lt L
  iintro ⟨Hmw, Hm, Ho, Hc, Hv, ⟨%gm, Hms⟩, ⟨%go, Hos⟩, HsC, HsD, %W', %hW', HO⟩
  ihave Hos2 := (pointsTo_split_subset (q := fullShare) (f := doneTo col val msk f (4 * t1.val + k.val)) (partSet_subset (t := t1.val) hw h2)).1 $$ Ho
  icases Hos2 with ⟨Hp, Hr⟩
  ihave Hp' := (Entails.of_eq (show (outV.view.loc (tV d L) ↦[partSet (wid L) t1.val k.val]{fullShare} doneTo col val msk f (4 * t1.val + k.val) : sProp 𝕄)
      = ((outW L t1 k).view.loc (tV d L) ↦[(outW L t1 k).view.set]{fullShare} doneTo col val msk f (4 * t1.val + k.val)) by rw [outW_set])) $$ Hp
  sl_exec (disch := exact View.amount_pos _ _ (show 0 < S16384.numel by decide))
  iapply (Scf.wp_for_bind _ _ _ _ _ _ _ _ _ (I3 d L go) (fun k3 acc => t3_step d L go k3 acc)) $$ [Hos]
  · unfold I3; rw [zeroTo_zero]; iexact Hos
  iintro %a Hos
  iapply (Scf.wp_for_bind _ _ _ _ _ _ _ _ _ (I4 d L cb vb (mskAt L msk t1 k) k.val) (fun k4 acc => t4_step d L cb vb (mskAt L msk t1 k) hcb k k4 acc)) $$ [Hc Hv Hms Hos]
  · unfold I4
    isplitl [Hc]; · iexact Hc
    isplitl [Hv]; · iexact Hv
    isplitl [Hms]
    · iapply (Entails.of_eq (show (mskS.view.loc (tV d L) ↦{fullShare} View.write (Elt F) mskS.view gm (t2_step.sl.dma0 L msk t1 k) Finset.univ : sProp 𝕄)
          = (mskS.view.loc (tV d L) ↦{fullShare} mskAt L msk t1 k) from
        congrArg (fun g => (mskS.view.loc (tV d L) ↦{fullShare} g : sProp 𝕄)) (View.write_whole_univ (Val := Elt F) (cc1_scratch2 : Ref sig .scVector) gm (mskAt L msk t1 k)))) $$ Hms
    · iapply (Entails.of_eq (show I3 d L go k1_t3_loop.trips a = (outS.view.loc (tV d L) ↦{fullShare} rows cb vb (mskAt L msk t1 k) k.val 0 : sProp 𝕄) by
        rw [trips3, ← zeroTo_end go]; rfl)) $$ Hos
  iintro %a' H4
  ihave H4' := (Entails.of_eq (show I4 d L cb vb (mskAt L msk t1 k) k.val k1_t4_loop.trips a' = I4 d L cb vb (mskAt L msk t1 k) k.val 64 a' by rw [trips4])) $$ H4
  unfold I4
  icases H4' with ⟨Hc, Hv, Hms, Hos⟩
  sl_exec (disch := exact View.amount_pos _ _ (show 0 < S65536.numel by decide))
  sl_step
  ihave Hp2 := (Entails.of_eq (show ((outW L t1 k).view.loc (tV d L) ↦[(outW L t1 k).view.set]{fullShare}
        (outW L t1 k).view.writes (Elt F) (doneTo col val msk f (4 * t1.val + k.val)) [⟨Rect.whole S65536, t2_step.sl.dma0_1 L msk t1 cb vb k⟩] : sProp 𝕄)
      = (outV.view.loc (tV d L) ↦[partSet (wid L) t1.val k.val]{fullShare} doneTo col val msk f (4 * t1.val + k.val + 1)) from by
    rw [outW_set, show t2_step.sl.dma0_1 L msk t1 cb vb k = rows cb vb (mskAt L msk t1 k) k.val 64 from rfl]
    exact pointsTo_congr fun J hJ => (part_written L _ _ _ _ J hJ fun j hj => rows_eq_scOut col val msk cb vb _ _ k.val (by omega) h2 hc hv
        (fun n hn => mskAt_apply L msk t1 k n hn) j J hj).trans (doneTo_on col val msk f hw h2 hJ).symm)) $$ Hp'
  ihave Hr2 := (Entails.of_eq (pointsTo_congr (ℓ := outV.view.loc (tV d L)) (q := fullShare) fun J hJ => doneTo_off col val msk f (t := t1.val) hw h2 hJ)) $$ Hr
  ihave Ho := (pointsTo_split_subset (ℓ := outV.view.loc (tV d L)) (q := fullShare) (f := doneTo col val msk f (4 * t1.val + k.val + 1)) (partSet_subset (t := t1.val) hw h2)).2 $$ [Hp2 Hr2]
  · isplitl [Hp2] <;> iassumption
  isplitl [Hmw]; · iexact Hmw
  isplitl [Hm]; · iexact Hm
  isplitl [Ho]; · iexact Ho
  isplitl [Hc]; · iexact Hc
  isplitl [Hv]; · iexact Hv
  isplitl [Hms]; · iexists _; iexact Hms
  isplitl [Hos]; · iexists _; iexact Hos
  isplitl [HsC]; · iexact HsC
  isplitl [HsD]; · iexact HsD
  iexists (insert (SemLoc.dma cc1_scoped3.sem, (default : HIx 1)) (insert (SemLoc.dma cc1_scoped2.sem, (default : HIx 1)) W')); isplitr
  · ipureintro
    exact waits_step (waits_step hW')
  · iexact HO

/-! ## A trip, and the task -/

/-- The window of the columns that a trip reads. -/
abbrev colW (t1 : Fin k1_t1_loop.trips) : Memref sig .scVector .hbm S8192 .i32 :=
  colV.slice (Rect.unit (s := S1572864) (k1_off1 L t1) S8192.size (k1_off1_inb L t1)) (fun _ => rfl)
/-- The window of the values that a trip reads. -/
abbrev valW (t1 : Fin k1_t1_loop.trips) : Memref sig .scVector .hbm S8192 .f32 :=
  valV.slice (Rect.unit (s := S1572864) (k1_off1 L t1) S8192.size (k1_off1_inb L t1)) (fun _ => rfl)

/-- The columns as a copy lands them. -/
def colAt (col : Vec F S1572864 .i32) (t1 : Fin k1_t1_loop.trips) : Vec F S8192 .i32 := (colW L t1).view.read (Elt F) col
/-- The values as a copy lands them. -/
def valAt (val : Vec F S1572864 .f32) (t1 : Fin k1_t1_loop.trips) : Vec F S8192 .f32 := (valW L t1).view.read (Elt F) val

/-- A column as landed, among all of them. -/
theorem colAt_apply (col : Vec F S1572864 .i32) (t1 : Fin k1_t1_loop.trips) (n : ℕ) (hn : n < 8192) :
    at8192 (colAt L col t1) n = atCol col ((wid L + 32 * t1.val) * 8192 + n) := by
  refine congrArg col (eq_ixm (N := 1572864) (by decide) ((colW L t1).view.emb (ixm 8192 (by decide) n)) _ ?_)
  have h0 := off1_0 L t1
  have hx : (ixm 8192 (by decide) n 0).val = n := Nat.mod_eq_of_lt hn
  show k1_off1 L t1 0 + 1 * (ixm 8192 _ n 0).val = _
  rw [hx]; omega

/-- A value as landed, among all of them. -/
theorem valAt_apply (val : Vec F S1572864 .f32) (t1 : Fin k1_t1_loop.trips) (n : ℕ) (hn : n < 8192) :
    at8192 (valAt L val t1) n = atCol val ((wid L + 32 * t1.val) * 8192 + n) := by
  refine congrArg val (eq_ixm (N := 1572864) (by decide) ((valW L t1).view.emb (ixm 8192 (by decide) n)) _ ?_)
  have h0 := off1_0 L t1
  have hx : (ixm 8192 (by decide) n 0).val = n := Nat.mod_eq_of_lt hn
  show k1_off1 L t1 0 + 1 * (ixm 8192 _ n 0).val = _
  rw [hx]; omega

/-- What the loop over a task's trips keeps. -/
def I1 (col : Vec F S1572864 .i32) (val : Vec F S1572864 .f32) (msk : Vec F S12582912 .i32) (f : Vec F S50331648 .f32) (q : PosShare TreeShare)
    (O : CellTallies nD τ sig (HIx 1)) (W : Waits sig (HIx 1)) (n : ℕ) (_ : PUnit) : sProp 𝕄 :=
  iprop(Transfers.MayWaits (tV d L) (default : HIx 1) O
    ∗ (colV.view.loc (tV d L) ↦{q} col) ∗ (valV.view.loc (tV d L) ↦{q} val) ∗ (mskV.view.loc (tV d L) ↦{q} msk)
    ∗ (outV.view.loc (tV d L) ↦[tileSet (wid L)]{fullShare} doneTo col val msk f (4 * n))
    ∗ (∃ g, colS.view.loc (tV d L) ↦{fullShare} g) ∗ (∃ g, valS.view.loc (tV d L) ↦{fullShare} g)
    ∗ (∃ g, mskS.view.loc (tV d L) ↦{fullShare} g) ∗ (∃ g, outS.view.loc (tV d L) ↦{fullShare} g)
    ∗ semVal (tV d L, SemLoc.dma cc1_scoped0.sem) 0 ∗ semVal (tV d L, SemLoc.dma cc1_scoped1.sem) 0
    ∗ semVal (tV d L, SemLoc.dma cc1_scoped2.sem) 0 ∗ semVal (tV d L, SemLoc.dma cc1_scoped3.sem) 0
    ∗ ∃ W', ⌜∀ p ∈ W', p ∈ W ∨ p.2 = none⌝ ∗ owes (tV d L) O W')

set_option maxHeartbeats 4000000 in
/-- A trip runs: the span's columns and values in, then its four parts. -/
theorem t1_step (col : Vec F S1572864 .i32) (val : Vec F S1572864 .f32) (msk : Vec F S12582912 .i32) (f : Vec F S50331648 .f32)
    (q : PosShare TreeShare) (O : CellTallies nD τ sig (HIx 1)) (W : Waits sig (HIx 1)) (hcol : ∀ x, (col x).toNat < 2048) (v1 : BitVec 32)
    (k : Fin k1_t1_loop.trips) (acc : PUnit) :
    I1 d L col val msk f q O W k.val acc
      ⊢ wp frame (wpE (defs₀ (F := F)) 𝒱₀ (tV d L) none) Set.univ (b1 L v1 k acc) (I1 d L col val msk f q O W (k.val + 1)) := by
  unfold b1 k1_t1_body
  unfold I1
  rw [k1_part1_eq_skeleton]; unfold k1_part1_skel
  have hw := wid_lt L
  iintro ⟨Hmw, Hcol, Hval, Hm, Ho, ⟨%gc, Hc⟩, ⟨%gv, Hv⟩, ⟨%gm, Hms⟩, ⟨%go, Hos⟩, HsA, HsB, HsC, HsD, %W', %hW', HO⟩
  sl_exec (disch := exact View.amount_pos _ _ (show 0 < S8192.numel by decide))
  have hcb : ∀ x, (colAt L col k x).toNat < 2048 := fun x => hcol _
  iapply (Scf.wp_for_bind _ _ _ _ _ _ _ _ _ (I2 d L col val msk f q O W k.val (colAt L col k) (valAt L val k)) (fun k2 acc =>
    t2_step d L col val msk f q O W k (colAt L col k) (valAt L val k) hcb (colAt_apply L col k) (valAt_apply L val k) k2 acc)) $$ [Hmw Hm Ho Hc Hv Hms Hos HsC HsD HO]
  · unfold I2
    isplitl [Hmw]; · iexact Hmw
    isplitl [Hm]; · iexact Hm
    isplitl [Ho]; · iexact Ho
    isplitl [Hc]
    · iapply (Entails.of_eq (show (colS.view.loc (tV d L) ↦{fullShare} View.write (Elt F) colS.view gc (t1_step.sl.dma0 L col k) Finset.univ : sProp 𝕄)
          = (colS.view.loc (tV d L) ↦{fullShare} colAt L col k) from
        congrArg (fun g => (colS.view.loc (tV d L) ↦{fullShare} g : sProp 𝕄)) (View.write_whole_univ (Val := Elt F) (cc1_scratch0 : Ref sig .scVector) gc (colAt L col k)))) $$ Hc
    isplitl [Hv]
    · iapply (Entails.of_eq (show (valS.view.loc (tV d L) ↦{fullShare} View.write (Elt F) valS.view gv (t1_step.sl.dma0_1 L val k) Finset.univ : sProp 𝕄)
          = (valS.view.loc (tV d L) ↦{fullShare} valAt L val k) from
        congrArg (fun g => (valS.view.loc (tV d L) ↦{fullShare} g : sProp 𝕄)) (View.write_whole_univ (Val := Elt F) (cc1_scratch1 : Ref sig .scVector) gv (valAt L val k)))) $$ Hv
    isplitl [Hms]; · iexists _; iexact Hms
    isplitl [Hos]; · iexists _; iexact Hos
    isplitl [HsC]; · iexact HsC
    isplitl [HsD]; · iexact HsD
    iexists (insert (SemLoc.dma cc1_scoped1.sem, (default : HIx 1)) (insert (SemLoc.dma cc1_scoped0.sem, (default : HIx 1)) W')); isplitr
    · ipureintro
      exact waits_step (waits_step hW')
    · iexact HO
  iintro %a H2
  ihave H2' := (Entails.of_eq (show I2 d L col val msk f q O W k.val (colAt L col k) (valAt L val k) k1_t2_loop.trips a
      = I2 d L col val msk f q O W k.val (colAt L col k) (valAt L val k) 4 a by rw [trips2])) $$ H2
  unfold I2
  icases H2' with ⟨Hmw, Hm, Ho, Hc, Hv, Hms, Hos, HsC, HsD, HO⟩
  sl_step
  isplitl [Hmw]; · iexact Hmw
  isplitl [Hcol]; · iexact Hcol
  isplitl [Hval]; · iexact Hval
  isplitl [Hm]; · iexact Hm
  isplitl [Ho]; · iexact Ho
  isplitl [Hc]; · iexists _; iexact Hc
  isplitl [Hv]; · iexists _; iexact Hv
  isplitl [Hms]; · iexact Hms
  isplitl [Hos]; · iexact Hos
  isplitl [HsA]; · iexact HsA
  isplitl [HsB]; · iexact HsB
  isplitl [HsC]; · iexact HsC
  isplitl [HsD]; · iexact HsD
  iexact HO

/-! ## What the task is handed of its subcore's own -/

/-- A semaphore of the subcore. -/
abbrev semCell (L : grid1.Coords) (s : DmaSem sig) : GSem nD τ sig := (tV d L, .dma s)

omit [FloatOps F] in
/-- The subcore's semaphores at zero, the four of the copies named. -/
theorem ownSems0_V :
    (ownSems0 (tV d L) : sProp 𝕄)
      = iprop(semVal (semCell d L cc1_scoped0.sem) 0 ∗ semVal (semCell d L cc1_scoped1.sem) 0 ∗ semVal (semCell d L cc1_scoped2.sem) 0 ∗ semVal (semCell d L cc1_scoped3.sem) 0
          ∗ bigSep (((((ownCells (tV d L)).erase (semCell d L cc1_scoped0.sem)).erase (semCell d L cc1_scoped1.sem)).erase (semCell d L cc1_scoped2.sem)).erase (semCell d L cc1_scoped3.sem)) fun g => semVal g 0) := by
  have h0 : semCell d L cc1_scoped0.sem ∈ ownCells (tV d L) := (mem_ownCells (g := _)).mpr ⟨rfl, by show (SemLoc.dma cc1_scoped0.sem : SemLoc sig).isScoped .scVector = true; decide⟩
  have h1 : semCell d L cc1_scoped1.sem ∈ ownCells (tV d L) := (mem_ownCells (g := _)).mpr ⟨rfl, by show (SemLoc.dma cc1_scoped1.sem : SemLoc sig).isScoped .scVector = true; decide⟩
  have h2 : semCell d L cc1_scoped2.sem ∈ ownCells (tV d L) := (mem_ownCells (g := _)).mpr ⟨rfl, by show (SemLoc.dma cc1_scoped2.sem : SemLoc sig).isScoped .scVector = true; decide⟩
  have h3 : semCell d L cc1_scoped3.sem ∈ ownCells (tV d L) := (mem_ownCells (g := _)).mpr ⟨rfl, by show (SemLoc.dma cc1_scoped3.sem : SemLoc sig).isScoped .scVector = true; decide⟩
  have ne : ∀ {a b : DmaSem sig}, a ≠ b → semCell d L a ≠ semCell d L b := fun h e => h (SemLoc.dma.inj (Prod.mk.inj e).2)
  unfold SparseCore.Cfg.ownSems0
  rw [SparseCore.bigSep_erase' h0, SparseCore.bigSep_erase' (Finset.mem_erase.mpr ⟨ne (by decide), h1⟩),
    SparseCore.bigSep_erase' (Finset.mem_erase.mpr ⟨ne (by decide), Finset.mem_erase.mpr ⟨ne (by decide), h2⟩⟩),
    SparseCore.bigSep_erase' (Finset.mem_erase.mpr ⟨ne (by decide), Finset.mem_erase.mpr ⟨ne (by decide), Finset.mem_erase.mpr ⟨ne (by decide), h3⟩⟩⟩)]

/-- A scratch buffer of the subcore. -/
abbrev bufOf (r : Ref sig .scVector) : DevRef τ sig := (Proc.scVector (cV L) (jV L)).devRef r

omit [FloatOps F] in
/-- The subcore's buffers, the four scratch buffers named. -/
theorem ownBufs_V :
    (ownBufs (tV d L) : sProp 𝕄)
      = iprop((∃ g, (tV d L).loc cc1_scratch0 ↦{fullShare} g) ∗ (∃ g, (tV d L).loc cc1_scratch1 ↦{fullShare} g)
          ∗ (∃ g, (tV d L).loc cc1_scratch2 ↦{fullShare} g) ∗ (∃ g, (tV d L).loc cc1_scratch3 ↦{fullShare} g)
          ∗ bigSep (((((ownRefs (τ := τ) (.scVector (cV L) (jV L))).erase (bufOf L cc1_scratch0)).erase (bufOf L cc1_scratch1)).erase (bufOf L cc1_scratch2)).erase (bufOf L cc1_scratch3))
              fun b => iprop(∃ g, ((d, b) : Loc nD τ sig) ↦{fullShare} g)) := by
  have hm : ∀ {r : Ref sig .scVector}, (bufOf L r).owner = .proc (.scVector (cV L) (jV L)) → bufOf L r ∈ ownRefs (τ := τ) (.scVector (cV L) (jV L)) := fun h =>
    SparseCore.Cfg.mem_ownRefs_of_owner (p := Proc.scVector (cV L) (jV L)) h
  have ne : ∀ {a b : Ref sig .scVector}, a ≠ b → bufOf L a ≠ bufOf L b := fun h e => h (Proc.devRef_injective _ e)
  unfold SparseCore.Cfg.ownBufs
  refine (SparseCore.bigSep_erase' (hm (r := cc1_scratch0) rfl)).trans ?_
  rw [SparseCore.bigSep_erase' (Finset.mem_erase.mpr ⟨ne (show (cc1_scratch1 : Ref sig .scVector) ≠ cc1_scratch0 by decide), hm (r := cc1_scratch1) rfl⟩),
    SparseCore.bigSep_erase' (Finset.mem_erase.mpr ⟨ne (show (cc1_scratch2 : Ref sig .scVector) ≠ cc1_scratch1 by decide), Finset.mem_erase.mpr
      ⟨ne (show (cc1_scratch2 : Ref sig .scVector) ≠ cc1_scratch0 by decide), hm (r := cc1_scratch2) rfl⟩⟩),
    SparseCore.bigSep_erase' (Finset.mem_erase.mpr ⟨ne (show (cc1_scratch3 : Ref sig .scVector) ≠ cc1_scratch2 by decide), Finset.mem_erase.mpr
      ⟨ne (show (cc1_scratch3 : Ref sig .scVector) ≠ cc1_scratch1 by decide), Finset.mem_erase.mpr
        ⟨ne (show (cc1_scratch3 : Ref sig .scVector) ≠ cc1_scratch0 by decide), hm (r := cc1_scratch3) rfl⟩⟩⟩)]

/-! ## The task -/

/-- What the task holds of the inputs. -/
def inPts (d : Dev nD) (q : PosShare TreeShare) (col : Vec F S1572864 .i32) (val : Vec F S1572864 .f32) (msk : Vec F S12582912 .i32) : sProp 𝕄 :=
  iprop((colLoc d ↦{q} col) ∗ (valLoc d ↦{q} val) ∗ (mskLoc d ↦{q} msk))

set_option maxHeartbeats 4000000 in
/-- The task: from the three inputs and its positions of the output at any contents, to its positions at the scatter's sums. -/
theorem tile_body (hF : (K (F := F)).Facts) (col : Vec F S1572864 .i32) (val : Vec F S1572864 .f32) (msk : Vec F S12582912 .i32) (f : Vec F S50331648 .f32)
    (q : PosShare TreeShare) (hcol : ∀ x, (col x).toNat < 2048) (O : CellTallies nD τ sig (HIx 1)) (W : Waits sig (HIx 1)) (hO : ∀ g, O g none = 0) :
    iprop(levAts (K (F := F)).L (K (F := F)).lev ∗ emp
        ∗ (inPts d q col val msk ∗ (outLoc d ↦[tileSet (wid L)]{fullShare} f))
        ∗ scopedBufs (tV d L) ∗ scopedSems0 (tV d L) ∗ owes (tV d L) O W)
      ⊢ wp frame (wpE (defs₀ (F := F)) 𝒱₀ (tV d L) none) Set.univ
          (cc1__sc_scatter_body L colV (Memref.isWhole_whole _) valV (Memref.isWhole_whole _) mskV (Memref.isWhole_whole _) outV (Memref.isWhole_whole _)
            colS (Memref.isWhole_whole _) valS (Memref.isWhole_whole _) mskS (Memref.isWhole_whole _) outS (Memref.isWhole_whole _) cc1_scoped0 cc1_scoped1 cc1_scoped2 cc1_scoped3)
          fun _ => iprop((inPts d q col val msk ∗ (outLoc d ↦[tileSet (wid L)]{fullShare} scOut col val msk))
            ∗ scopedBufs (tV d L) ∗ scopedSems0 (tV d L)
            ∗ ∃ W', ⌜∀ p ∈ W', p ∈ W ∨ p.2 = none⌝ ∗ owes (tV d L) O W') := by
  rw [cc1__sc_scatter_body_eq_skeleton]; unfold cc1__sc_scatter_body_skel inPts
  rw [(K (F := F)).scopedBufs_V hF d (cV L) (jV L), SparseCore.Cfg.scopedSems0_V (Val := Elt F) d (cV L) (jV L), ownSems0_V, ownBufs_V]
  iintro ⟨#Hlv, -, ⟨⟨Hcol, Hval, Hm⟩, Ho⟩, ⟨Hc, Hv, Hms, Hos, Hbufs⟩, ⟨HsA, HsB, HsC, HsD, Hsems⟩, HO⟩
  ihave Hmw := (show levAts (K (F := F)).L (K (F := F)).lev ⊢ Transfers.MayWaits (tV d L) (default : HIx 1) O from
    (K (F := F)).mayWaits_none (thr := tV d L) hO) $$ Hlv
  iapply (Scf.wp_for_bind _ _ _ _ _ _ _ _ _ (I1 d L col val msk f q O W) (fun k acc =>
    t1_step d L col val msk f q O W hcol _ k acc)) $$ [Hmw Hcol Hval Hm Ho Hc Hv Hms Hos HsA HsB HsC HsD HO]
  · unfold I1
    isplitl [Hmw]; · iexact Hmw
    isplitl [Hcol]; · iexact Hcol
    isplitl [Hval]; · iexact Hval
    isplitl [Hm]; · iexact Hm
    isplitl [Ho]; · rw [show 4 * 0 = 0 from rfl, doneTo_zero]; iexact Ho
    isplitl [Hc]; · iexact Hc
    isplitl [Hv]; · iexact Hv
    isplitl [Hms]; · iexact Hms
    isplitl [Hos]; · iexact Hos
    isplitl [HsA]; · iexact HsA
    isplitl [HsB]; · iexact HsB
    isplitl [HsC]; · iexact HsC
    isplitl [HsD]; · iexact HsD
    iexists W; isplitr
    · ipureintro; exact fun p hp => .inl hp
    · iexact HO
  iintro %a H1
  ihave H1' := (Entails.of_eq (show I1 d L col val msk f q O W k1_t1_loop.trips a = I1 d L col val msk f q O W 6 a by rw [trips1])) $$ H1
  unfold I1
  icases H1' with ⟨-, Hcol, Hval, Hm, Ho, Hc, Hv, Hms, Hos, HsA, HsB, HsC, HsD, HO⟩
  sl_step
  isplitl [Hcol Hval Hm Ho]
  · isplitl [Hcol Hval Hm]
    · isplitl [Hcol]; · iexact Hcol
      isplitl [Hval]; · iexact Hval
      iexact Hm
    · rw [show 4 * 6 = 24 from rfl, doneTo_end]; iexact Ho
  isplitl [Hc Hv Hms Hos Hbufs]
  · isplitl [Hc]; · iexact Hc
    isplitl [Hv]; · iexact Hv
    isplitl [Hms]; · iexact Hms
    isplitl [Hos]; · iexact Hos
    iexact Hbufs
  isplitl [HsA HsB HsC HsD Hsems]
  · isplitl [HsA]; · iexact HsA
    isplitl [HsB]; · iexact HsB
    isplitl [HsC]; · iexact HsC
    isplitl [HsD]; · iexact HsD
    iexact Hsems
  iexact HO

end Cert.Proof.Tile
-- ==== Proof.Deal.lean ====
/-
  What the SparseCore call hands around: the three inputs as read shares and the output cut into the tasks' positions,
  dealt to the two cores and their sixteen subcores each and gathered back with every position written.
-/
module

public import proofs.«01_k».proof.Proof.Tile

@[expose] public section

noncomputable section

namespace Cert.Proof.Deal

open Cert.KernelIdeal Cert.KernelIdeal.Gen

open Idealize.ShloMosaic
open Idealize.ShloMosaic.SparseCore (S V T)
open Idealize.ShloMosaic.SparseCore.Cfg (HIx Pay)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Cert.Proof.ScVal Cert.Proof.Base Cert.Proof.Tile

variable {F : FTy → Type} [FloatOps F]

local notation "𝕄" => MT nD τ sig (HIx 1) (Elt F) ℕ UU ℕ

/-- The positions of the output that core `c`'s tasks write. -/
def coreSet (c : ℕ) : Finset S50331648.Idx := Finset.univ.filter fun J => (J 0).val / 262144 % 2 = c

/-- The share of an input that core `c` reads. -/
abbrev coreShare (c : Fin 2) : PosShare TreeShare := leaf 1 fullShare c
/-- The share of an input that subcore `i` of core `c` reads. -/
abbrev taskShare (c : Fin 2) (i : Fin 16) : PosShare TreeShare := leaf 4 (coreShare c) i

/-- The output's positions in `I` at contents `f`. -/
abbrev outPts (d : Dev nD) (I : Finset S50331648.Idx) (f : Vec F S50331648 .f32) : sProp 𝕄 := outLoc d ↦[I]{fullShare} f

/-! ## The positions cut and joined -/

/-- The cores' positions are the whole output. -/
theorem outPts_cores (d : Dev nD) (f : Vec F S50331648 .f32) :
    (outLoc d ↦{fullShare} f : sProp 𝕄) = bigSep Finset.univ fun c : Fin 2 => outPts d (coreSet c.val) f := by
  have hd : ∀ i ∈ (Finset.univ : Finset (Fin 2)), ∀ j ∈ (Finset.univ : Finset (Fin 2)), i ≠ j → Disjoint (coreSet i.val) (coreSet j.val) := by
    intro i _ j _ h
    rw [Finset.disjoint_left]
    intro J hi hj
    simp only [coreSet, Finset.mem_filter, Finset.mem_univ, true_and] at hi hj
    exact h (Fin.ext (hi.symm.trans hj))
  have hc : (Finset.univ : Finset (Fin 2)).biUnion (fun c => coreSet c.val) = Finset.univ := by
    ext J
    simp only [coreSet, Finset.mem_biUnion, Finset.mem_filter, Finset.mem_univ, true_and, iff_true]
    exact ⟨⟨(J 0).val / 262144 % 2, Nat.mod_lt _ (by decide)⟩, rfl⟩
  have e := pointsTo_biUnion (Ix := HIx 1) (Val := Elt F) (Name := ℕ) (U := UU) (Lvl := ℕ) (q := fullShare) (f := f) Finset.univ (ℓ := outLoc d) (fun c : Fin 2 => coreSet c.val) hd
  rw [hc] at e
  exact e

/-- A core's positions are its tasks'. -/
theorem outPts_tasks (d : Dev nD) (c : Fin 2) (f : Vec F S50331648 .f32) :
    (outPts d (coreSet c.val) f : sProp 𝕄) = bigSep Finset.univ fun i : Fin 16 => outPts d (tileSet (2 * i.val + c.val)) f := by
  have hd : ∀ i ∈ (Finset.univ : Finset (Fin 16)), ∀ j ∈ (Finset.univ : Finset (Fin 16)), i ≠ j →
      Disjoint (tileSet (2 * i.val + c.val)) (tileSet (2 * j.val + c.val)) := by
    intro i _ j _ h
    rw [Finset.disjoint_left]
    intro J hi hj
    simp only [tileSet, Finset.mem_filter, Finset.mem_univ, true_and] at hi hj
    exact h (Fin.ext (by omega))
  have hc : (Finset.univ : Finset (Fin 16)).biUnion (fun i => tileSet (2 * i.val + c.val)) = coreSet c.val := by
    ext J
    have := c.isLt
    simp only [coreSet, tileSet, Finset.mem_biUnion, Finset.mem_filter, Finset.mem_univ, true_and]
    constructor
    · rintro ⟨i, hi⟩; omega
    · intro h
      exact ⟨⟨(J 0).val / 262144 % 32 / 2, by omega⟩, by show _ = 2 * ((J 0).val / 262144 % 32 / 2) + c.val; omega⟩
  have e := pointsTo_biUnion (Ix := HIx 1) (Val := Elt F) (Name := ℕ) (U := UU) (Lvl := ℕ) (q := fullShare) (f := f) Finset.univ (ℓ := outLoc d) (fun i : Fin 16 => tileSet (2 * i.val + c.val)) hd
  rw [hc] at e
  exact e

/-- The inputs at a share are the inputs at its leaves. -/
theorem inPts_leaves (d : Dev nD) (n : ℕ) (q : PosShare TreeShare) (col : Vec F S1572864 .i32) (val : Vec F S1572864 .f32) (msk : Vec F S12582912 .i32) :
    (inPts d q col val msk : sProp 𝕄) = bigSep Finset.univ fun i : Fin (2 ^ n) => inPts d (leaf n q i) col val msk := by
  unfold inPts
  rw [bigSep_sep', bigSep_sep', pointsTo_leaves (ℓ := colLoc d) Finset.univ col n q,
    pointsTo_leaves (ℓ := valLoc d) Finset.univ val n q, pointsTo_leaves (ℓ := mskLoc d) Finset.univ msk n q]

instance inPts_storable (d : Dev nD) (q : PosShare TreeShare) (col : Vec F S1572864 .i32) (val : Vec F S1572864 .f32) (msk : Vec F S12582912 .i32) :
    BI.Storable (upEmb : UEmb _ 𝕄) (inPts d q col val msk) := by
  unfold inPts; infer_instance

/-! ## What the call's parts hold -/

variable (col : Dev nD → Vec F S1572864 .i32) (val : Dev nD → Vec F S1572864 .f32) (msk : Dev nD → Vec F S12582912 .i32) (out : Dev nD → Vec F S50331648 .f32)

/-- What the call leaves in the output. -/
abbrev written (d : Dev nD) : Vec F S50331648 .f32 := scOut (col d) (val d) (msk d)

/-- A core's part, the output at `f`. -/
abbrev corePart (d : Dev nD) (c : Fin 2) (f : Vec F S50331648 .f32) : sProp 𝕄 :=
  iprop(inPts d (coreShare c) (col d) (val d) (msk d) ∗ outPts d (coreSet c.val) f)

/-- A task's part, the output at `f`. -/
abbrev taskPart (d : Dev nD) (c : Fin 2) (i : Fin 16) (f : Vec F S50331648 .f32) : sProp 𝕄 :=
  iprop(inPts d (taskShare c i) (col d) (val d) (msk d) ∗ outPts d (tileSet (2 * i.val + c.val)) f)

/-- The call's payloads: each core's and each task's part, the output before and after. -/
def P : (K (F := F)).Pay (nD := nD) (Val := Elt F) (Name := ℕ) (U := UU) where
  st := fun q d c => match q with | 0 => corePart col val msk d (Fin.cast nCore_zero c) (out d)
  dn := fun q d c => match q with | 0 => corePart col val msk d (Fin.cast nCore_zero c) (written col val msk d)
  go := fun q d c i => match q with | 0 => taskPart col val msk d (Fin.cast nCore_zero c) (Fin.cast nSub_zero i) (out d)
  td := fun q d c i => match q with | 0 => taskPart col val msk d (Fin.cast nCore_zero c) (Fin.cast nSub_zero i) (written col val msk d)
  x := fun _ _ => iprop(emp)

instance P_storable : (P (F := F) col val msk out).IsStorable where
  st q d c := match q with
    | 0 => (inferInstance : BI.Storable (upEmb : UEmb _ 𝕄) (corePart col val msk d (Fin.cast nCore_zero c) (out d)))
  dn q d c := match q with
    | 0 => (inferInstance : BI.Storable (upEmb : UEmb _ 𝕄) (corePart col val msk d (Fin.cast nCore_zero c) (written col val msk d)))
  go q d c i := match q with
    | 0 => (inferInstance : BI.Storable (upEmb : UEmb _ 𝕄) (taskPart col val msk d (Fin.cast nCore_zero c) (Fin.cast nSub_zero i) (out d)))
  td q d c i := match q with
    | 0 => (inferInstance : BI.Storable (upEmb : UEmb _ 𝕄) (taskPart col val msk d (Fin.cast nCore_zero c) (Fin.cast nSub_zero i) (written col val msk d)))

/-! ## The task's obligation -/

/-- The grid point of subcore `s` of core `c`. -/
def coordsV (c : Fin (grid1.bound 0)) (s : Fin (grid1.bound 1)) : grid1.Coords :=
  fun | 0 => c | 1 => s | ⟨_ + 2, h⟩ => absurd h (Nat.not_lt.2 (Nat.le_add_left _ _))

/-- A subcore's body is the task of its grid point. -/
theorem defs₀_vector (c : Fin τ.nSC) (s : Fin τ.nSub) :
    defs₀ (F := F) (.scVector c s) 1 ()
      = SparseCore.onTile hcore1 hsub1 (fun c s => cc1__sc_scatter_body (coordsV c s)
          colV (Memref.isWhole_whole _) valV (Memref.isWhole_whole _) mskV (Memref.isWhole_whole _) outV (Memref.isWhole_whole _)
          colS (Memref.isWhole_whole _) valS (Memref.isWhole_whole _) mskS (Memref.isWhole_whole _) outS (Memref.isWhole_whole _)
          cc1_scoped0 cc1_scoped1 cc1_scoped2 cc1_scoped3) ⟨⟩ c s := rfl

/-- A task's record of waits is one the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task takes its part to its part written, if every target column is below 2048. -/
theorem tileObl (hcol : ∀ d x, (col d x).toNat < 2048) : (K (F := F)).TileObl (D (F := F)) 𝒱 (P col val msk out) v₀ 0 := by
  intro d c i O W hO _ _
  simp only [show (P col val msk out).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (col d) (val d) (msk d) (out d)
    (taskShare (Fin.cast nCore_zero c) (Fin.cast nSub_zero i)) (hcol d) O W hO).trans (wp_mono frame _ _ fun _ => obl_post)

/-! ## The deal -/

/-- A family over the call's subcores is one over sixteen. -/
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A family over the call's cores is one over two. -/
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core's part is its tasks' parts. -/
theorem corePart_eq (d : Dev nD) (c : Fin 2) (f : Vec F S50331648 .f32) :
    corePart col val msk d c f = bigSep Finset.univ fun i : Fin 16 => taskPart col val msk d c i f := by
  unfold corePart taskPart
  rw [bigSep_sep', ← outPts_tasks, inPts_leaves d 4 (coreShare c)]
  rfl

/-- The whole call's buffers are the cores' parts. -/
theorem parts_eq (d : Dev nD) (f : Vec F S50331648 .f32) :
    (iprop(inPts d fullShare (col d) (val d) (msk d) ∗ (outLoc d ↦{fullShare} f)) : sProp 𝕄)
      = bigSep Finset.univ fun c : Fin ((K (F := F)).nCore 0) => corePart col val msk d (Fin.cast nCore_zero c) f := by
  rw [bigSep_cores (fun c => corePart col val msk d c f)]
  unfold corePart
  rw [bigSep_sep', ← outPts_cores, inPts_leaves d 1 fullShare]
  rfl

/-- A core deals its part to its tasks and takes it back written. -/
theorem vecSplit : (K (F := F)).VecSplit' (P col val msk out) 0 := by
  intro d c
  show corePart col val msk d (Fin.cast nCore_zero c) (out d) ⊢ |={Set.univ}=> iprop(
      (bigSep Finset.univ fun i : Fin ((K (F := F)).nSub 0) => taskPart col val msk d (Fin.cast nCore_zero c) (Fin.cast nSub_zero i) (out d))
      ∗ ((bigSep Finset.univ fun i : Fin ((K (F := F)).nSub 0) => taskPart col val msk d (Fin.cast nCore_zero c) (Fin.cast nSub_zero i) (written col val msk d))
          -∗ corePart col val msk d (Fin.cast nCore_zero c) (written col val msk d)))
  rw [bigSep_subs (fun i => taskPart col val msk d (Fin.cast nCore_zero c) i (out d)),
    bigSep_subs (fun i => taskPart col val msk d (Fin.cast nCore_zero c) i (written col val msk d)), ← corePart_eq, ← corePart_eq]
  iintro H; imodintro
  isplitl [H]; · iexact H
  iintro H; iexact H

end Cert.Proof.Deal

end
-- ==== Proof.TcVal.lean ====
/-
  What the TensorCore kernel computes at a grid point, as a pure function of the block it reads: its two sorting
  networks run their compare-exchange steps over the whole block, and no step touches memory.
-/
module

public import proofs.«01_k».proof.Defs
public import proofs.«01_k».proof.Proof.Gen.KernelIdeal
public import proofs.«01_k».proof.Proof.Gen.KernelIdeal.Skeleton
public import Idealize.ShloMosaic.Lib.Pointwise

@[expose] public section

noncomputable section

namespace Cert.Proof.TcVal

open Cert.KernelIdeal Cert.KernelIdeal.Gen
open Idealize.ShloMosaic Idealize.SL.Sem

variable {F : FTy → Type} [FloatOps F]

/-- The rows of a block with 128 columns whose number has no bit in common with `c`. -/
def clear128 (c : BitVec 32) : IVec S2048x128 1 :=
  cmpi .eq (andi (iota .tc S2048x128 32 [0] iota_S2048x128_d0_w32) (broadcast S2048x128 c)) (broadcast S2048x128 0#32)

/-- The same rows of a block with 64 columns. -/
def clear64 (c : BitVec 32) : IVec S2048x64 1 :=
  cmpi .eq (andi (iota .tc S2048x64 32 [0] iota_S2048x64_d0_w32) (broadcast S2048x64 c)) (broadcast S2048x64 0#32)

/-- Every row's partner: the row `c` below it where the row is clear at `c` (a rotation by `u`), else the row `c` above
    it (a rotation by `c`), over a block with 128 columns. -/
def partner128 {α : Type} (c u : BitVec 32) (x : S2048x128.Idx → α) : S2048x128.Idx → α :=
  select (clear128 c) (dynamicRotate 0 u none x rotates_S2048x128_d0)
    (dynamicRotate 0 c none x rotates_S2048x128_d0)

/-- The same over a block with 64 columns. -/
def partner64 {α : Type} (c u : BitVec 32) (x : S2048x64.Idx → α) : S2048x64.Idx → α :=
  select (clear64 c) (dynamicRotate 0 u none x rotates_S2048x64_d0)
    (dynamicRotate 0 c none x rotates_S2048x64_d0)

/-- The first sort's step: which rows take their partner's pair of value and row number. -/
def takeA (a c u : BitVec 32) (p : FVec F S2048x128 .f32 × IVec S2048x128 32) : IVec S2048x128 1 :=
  xori (xori (xori (clear128 c) (clear128 a)) (constantI S2048x128 1 1#1))
    (ori (cmpf .olt p.1 (partner128 c u p.1)) (andi (cmpf .oeq p.1 (partner128 c u p.1)) (cmpi .slt p.2 (partner128 c u p.2))))

/-- The first sort's step. -/
def stepA (a c u : BitVec 32) (p : FVec F S2048x128 .f32 × IVec S2048x128 32) : FVec F S2048x128 .f32 × IVec S2048x128 32 :=
  (select (takeA a c u p) (partner128 c u p.1) p.1, select (takeA a c u p) (partner128 c u p.2) p.2)

/-- The left half of a block's columns. -/
abbrev left {α : Type} (x : S2048x128.Idx → α) : S2048x64.Idx → α := extractStridedSlice S2048x64 ![0, 0] x slices_S2048x128_o0_0_S2048x64
/-- The right half of a block's columns. -/
abbrev right {α : Type} (x : S2048x128.Idx → α) : S2048x64.Idx → α := extractStridedSlice S2048x64 ![0, 64] x slices_S2048x128_o0_64_S2048x64
/-- Two halves side by side. -/
abbrev beside {α : Type} (x y : S2048x64.Idx → α) : S2048x128.Idx → α :=
  concatenate S2048x128 1 [⟨S2048x64, x⟩, ⟨S2048x64, y⟩] concatenates_S2048x64_S2048x64_S2048x128_d1

/-- The second sort's step: which rows take their partner's key, column and value. -/
def takeB (a c u : BitVec 32) (ii : IVec S2048x128 32) : IVec S2048x64 1 :=
  xori (xori (xori (clear64 c) (clear64 a)) (constantI S2048x64 1 1#1))
    (cmpi .slt (left ii) (left (partner128 c u ii)))

/-- The second sort's step. -/
def stepB (a c u : BitVec 32) (p : IVec S2048x128 32 × FVec F S2048x64 .f32) : IVec S2048x128 32 × FVec F S2048x64 .f32 :=
  (beside (select (takeB a c u p.1) (left (partner128 c u p.1)) (left p.1)) (select (takeB a c u p.1) (right (partner128 c u p.1)) (right p.1)),
    select (takeB a c u p.1) (partner64 c u p.2) p.2)

/-- A pass of the first sort: the distances from `2^k` down to 1, in runs of `2^(k+1)` rows. -/
def passA (k : ℕ) (p : FVec F S2048x128 .f32 × IVec S2048x128 32) : FVec F S2048x128 .f32 × IVec S2048x128 32 :=
  (List.range (k + 1)).foldl (fun p t => stepA (BitVec.ofNat 32 (2 ^ (k + 1))) (BitVec.ofNat 32 (2 ^ (k - t))) (BitVec.ofNat 32 (2048 - 2 ^ (k - t))) p) p

/-- A pass of the second sort. -/
def passB (k : ℕ) (p : IVec S2048x128 32 × FVec F S2048x64 .f32) : IVec S2048x128 32 × FVec F S2048x64 .f32 :=
  (List.range (k + 1)).foldl (fun p t => stepB (BitVec.ofNat 32 (2 ^ (k + 1))) (BitVec.ofNat 32 (2 ^ (k - t))) (BitVec.ofNat 32 (2048 - 2 ^ (k - t))) p) p

/-- The first sort of a block: values with their row numbers. -/
def sortA (x : FVec F S2048x128 .f32) : FVec F S2048x128 .f32 × IVec S2048x128 32 :=
  (List.range 11).foldl (fun p k => passA k p) (x, iota .tc S2048x128 32 [0] iota_S2048x128_d0_w32)

/-- The second sort of a block, of the first one's row numbers by their left half, carrying a value with each. -/
def sortB (ii : IVec S2048x128 32) (v : FVec F S2048x64 .f32) : IVec S2048x128 32 × FVec F S2048x64 .f32 :=
  (List.range 11).foldl (fun p k => passB k p) (ii, v)

/-- Both sorts of a block. -/
def sorted (x : Vec F S2048x128 .f32) : IVec S2048x128 32 × FVec F S2048x64 .f32 :=
  sortB (sortA (k0_pay1 x)).2 (k0_pay136 (sortA (k0_pay1 x)).1)

/-! ## The loops are pure -/

/-- A loop whose region only computes is the computation. -/
theorem for_pure {E : Type → Type} {σ : Type} (l : Scf.Loop 32) (hok : l.OK) (init : σ) (body : Fin l.trips → σ → Prog E σ)
    (n : ℕ) (hn : l.trips = n) (g : ℕ → σ → σ) (h : ∀ k acc, body k acc = pure (g k.val acc)) :
    Scf.Loop.for l hok init body = pure ((List.range n).foldl (fun acc k => g k acc) init) := by
  subst hn
  rw [show Scf.Loop.for l hok init body = _ from Scf.for_eq _ _ _ _ _ _]
  have key : ∀ (ks : List (Fin l.trips)) (acc : σ), Scf.forFrom body ks acc = pure ((ks.map Fin.val).foldl (fun acc k => g k acc) acc) := by
    intro ks
    induction ks with
    | nil => intro acc; rfl
    | cons k ks ih => intro acc; rw [Scf.forFrom_cons, h, pure_bind, ih]; rfl
  rw [key]
  exact congrArg (fun l => pure (List.foldl _ _ l)) (List.map_coe_finRange_eq_range)

/-- The first sort has eleven passes. -/
theorem t1_trips : k0_t1_loop.trips = 11 := by decide
/-- The second sort has eleven passes. -/
theorem t4_trips : k0_t4_loop.trips = 11 := by decide
/-- A pass of the first sort has one step more than its number. -/
theorem t2_trips : ∀ k : Fin k0_t1_loop.trips, (k0_t2_loop k).trips = k.val + 1 := by decide
/-- The loop left over after a pass of the first sort is empty. -/
theorem t3_trips : ∀ k : Fin k0_t1_loop.trips, (k0_t3_loop k).trips = 0 := by decide
/-- A pass of the second sort has one step more than its number. -/
theorem t5_trips : ∀ k : Fin k0_t4_loop.trips, (k0_t5_loop k).trips = k.val + 1 := by decide
/-- The loop left over after a pass of the second sort is empty. -/
theorem t6_trips : ∀ k : Fin k0_t4_loop.trips, (k0_t6_loop k).trips = 0 := by decide

/-- The step a trip selects, as the program computes its number. -/
theorem branch_eq : ∀ k : Fin 11, ∀ t : Fin 11, t.val ≤ k.val →
    Scalar.minsi (Scalar.maxsi (Scalar.subi (Scalar.subi (Scf.iv 1#32 1#32 k.val) 1#32) (Scf.iv 0#32 1#32 t.val)) 0#32) 10#32
      = BitVec.ofNat 32 (k.val - t.val) := by decide +kernel

/-- The distance that gives the direction, as the program computes it. -/
theorem shl_eq : ∀ k : Fin 11, Scalar.shli 1#32 (Scf.iv 1#32 1#32 k.val) = BitVec.ofNat 32 (2 ^ (k.val + 1)) := by decide +kernel

section Bodies

variable (i : grid0.Coords) (arg1 : Memref sig .tc .vmem S2048x128 .f32) (harg1 : arg1.IsWhole) (arg2 : Memref sig .tc .vmem S2048x128 .i32) (harg2 : arg2.IsWhole) (arg3 : Memref sig .tc .vmem S2048x128 .f32) (harg3 : arg3.IsWhole)

set_option maxRecDepth 16384 in
/-- A step of the first sort is pure. -/
theorem t2_body (k : Fin k0_t1_loop.trips) (t : Fin (k0_t2_loop k).trips) (p : FVec F S2048x128 .f32 × IVec S2048x128 32) :
    k0_t2_body i arg1 harg1 arg2 harg2 arg3 harg3 k (Scf.iv 1#32 1#32 k) t p
      = pure (stepA (BitVec.ofNat 32 (2 ^ (k.val + 1))) (BitVec.ofNat 32 (2 ^ (k.val - t.val))) (BitVec.ofNat 32 (2048 - 2 ^ (k.val - t.val))) p) := by
  have hk : k.val < 11 := lt_of_lt_of_eq k.isLt t1_trips
  have ht : t.val ≤ k.val := Nat.lt_succ_iff.mp (lt_of_lt_of_eq t.isLt (t2_trips k))
  have hv := branch_eq ⟨k.val, hk⟩ ⟨t.val, by omega⟩ ht
  have hs := shl_eq ⟨k.val, hk⟩
  dsimp only at hv hs
  rw [← hs]
  obtain ⟨b, hb⟩ : ∃ b, b = k.val - t.val := ⟨_, rfl⟩
  rw [← hb] at hv ⊢
  have hb11 : b < 11 := by omega
  clear hb
  unfold k0_t2_body
  dsimp only
  rw [hv]
  interval_cases b <;> repeat (first | rw [dif_pos (by decide)] | rw [dif_neg (by decide)])
  all_goals simp only [Nat.reducePow, Nat.reduceSub, pure_bind]
  all_goals rfl

set_option maxRecDepth 16384 in
/-- A trip of the second sort's inner loop is its step. -/
theorem t5_body (k : Fin k0_t4_loop.trips) (t : Fin (k0_t5_loop k).trips) (p : IVec S2048x128 32 × FVec F S2048x64 .f32) :
    k0_t5_body i arg1 harg1 arg2 harg2 arg3 harg3 k (Scf.iv 1#32 1#32 k) t p
      = pure (stepB (BitVec.ofNat 32 (2 ^ (k.val + 1))) (BitVec.ofNat 32 (2 ^ (k.val - t.val))) (BitVec.ofNat 32 (2048 - 2 ^ (k.val - t.val))) p) := by
  have hk : k.val < 11 := lt_of_lt_of_eq k.isLt t4_trips
  have ht : t.val ≤ k.val := Nat.lt_succ_iff.mp (lt_of_lt_of_eq t.isLt (t5_trips k))
  have hv := branch_eq ⟨k.val, hk⟩ ⟨t.val, by omega⟩ ht
  have hs := shl_eq ⟨k.val, hk⟩
  dsimp only at hv hs
  rw [← hs]
  obtain ⟨b, hb⟩ : ∃ b, b = k.val - t.val := ⟨_, rfl⟩
  rw [← hb] at hv ⊢
  have hb11 : b < 11 := by omega
  clear hb
  unfold k0_t5_body
  dsimp only
  rw [hv]
  interval_cases b <;> repeat (first | rw [dif_pos (by decide)] | rw [dif_neg (by decide)])
  all_goals simp only [Nat.reducePow, Nat.reduceSub, pure_bind]
  all_goals rfl

/-- A trip of the first sort's outer loop is its pass. -/
theorem t1_body (k : Fin k0_t1_loop.trips) (p : FVec F S2048x128 .f32 × IVec S2048x128 32) :
    k0_t1_body i arg1 harg1 arg2 harg2 arg3 harg3 k p = pure (passA k.val p) := by
  unfold k0_t1_body
  dsimp only
  rw [for_pure (k0_t2_loop k) _ _ _ _ (t2_trips k)
    (fun t p => stepA (BitVec.ofNat 32 (2 ^ (k.val + 1))) (BitVec.ofNat 32 (2 ^ (k.val - t))) (BitVec.ofNat 32 (2048 - 2 ^ (k.val - t))) p) fun t acc => t2_body i arg1 harg1 arg2 harg2 arg3 harg3 k t acc]
  simp only [pure_bind]
  rw [for_pure (k0_t3_loop k) _ _ _ 0 (t3_trips k) (fun _ acc => acc) fun t _ => absurd (lt_of_lt_of_eq t.isLt (t3_trips k)) (Nat.not_lt_zero _)]
  simp only [pure_bind]
  rfl

/-- A trip of the second sort's outer loop is its pass. -/
theorem t4_body (k : Fin k0_t4_loop.trips) (p : IVec S2048x128 32 × FVec F S2048x64 .f32) :
    k0_t4_body i arg1 harg1 arg2 harg2 arg3 harg3 k p = pure (passB k.val p) := by
  unfold k0_t4_body
  dsimp only
  rw [for_pure (k0_t5_loop k) _ _ _ _ (t5_trips k)
    (fun t p => stepB (BitVec.ofNat 32 (2 ^ (k.val + 1))) (BitVec.ofNat 32 (2 ^ (k.val - t))) (BitVec.ofNat 32 (2048 - 2 ^ (k.val - t))) p) fun t acc => t5_body i arg1 harg1 arg2 harg2 arg3 harg3 k t acc]
  simp only [pure_bind]
  rw [for_pure (k0_t6_loop k) _ _ _ 0 (t6_trips k) (fun _ acc => acc) fun t _ => absurd (lt_of_lt_of_eq t.isLt (t6_trips k)) (Nat.not_lt_zero _)]
  simp only [pure_bind]
  rfl

/-- The kernel loads its block, and stores the two results of sorting it. -/
theorem body_eq :
    cc0__tc_sort_body (F := F) i arg1 harg1 arg2 harg2 arg3 harg3 = (do
      let v1 : Vec F S2048x128 .f32 ← Prog.lift (.load arg1 (Rect.unit (s := S2048x128) ![0, 0] S2048x128.size inb_S2048x128_S2048x128_0_0).toLoadRect (View.loadsAt_vmem h_S2048x128))
      let _ : Vec F S2048x128 .i32 ← Prog.lift (.load arg2 (Rect.unit (s := S2048x128) ![0, 0] S2048x128.size inb_S2048x128_S2048x128_0_0).toLoadRect (View.loadsAt_vmem h_S2048x128))
      Prog.lift (.store arg2 (Rect.unit (s := S2048x128) ![0, 0] S2048x128.size inb_S2048x128_S2048x128_0_0) (k0_pay249 (sorted v1).1) Finset.univ (View.stores_vmem_bits_univ h_S2048x128 rfl) (.inl rfl))
      let _ : Vec F S2048x128 .f32 ← Prog.lift (.load arg3 (Rect.unit (s := S2048x128) ![0, 0] S2048x128.size inb_S2048x128_S2048x128_0_0).toLoadRect (View.loadsAt_vmem h_S2048x128))
      Prog.lift (.store arg3 (Rect.unit (s := S2048x128) ![0, 0] S2048x128.size inb_S2048x128_S2048x128_0_0) (k0_pay250 (sorted v1).2) Finset.univ (View.stores_vmem_bits_univ h_S2048x128 rfl) (.inl rfl))
      pure ⟨⟩) := by
  rw [cc0__tc_sort_body_eq_skeleton]
  unfold cc0__tc_sort_body_skel
  refine congrArg (Prog.lift _ >>= ·) (funext fun v1 => ?_)
  dsimp only
  rw [for_pure k0_t1_loop _ _ _ 11 t1_trips (fun k p => passA k p) fun k acc => t1_body i arg1 harg1 arg2 harg2 arg3 harg3 k acc]
  simp only [pure_bind]
  rw [for_pure k0_t4_loop _ _ _ 11 t4_trips (fun k p => passB k p) fun k acc => t4_body i arg1 harg1 arg2 harg2 arg3 harg3 k acc]
  simp only [pure_bind]
  rfl

end Bodies

/-! ## The row numbers stay row numbers -/

/-- Every element is below 2048. -/
def Small {s : Shape} (x : IVec s 32) : Prop := ∀ j, (x j).toNat < 2048

/-- A choice of two such is such. -/
theorem Small.select {s : Shape} (c : IVec s 1) {x y : IVec s 32} (hx : Small x) (hy : Small y) : Small (select c x y) := fun j => by
  show (Scalar.select (c j) (x j) (y j)).toNat < 2048
  unfold Scalar.select
  split
  · exact hx j
  · exact hy j

/-- Two such side by side are such. -/
theorem Small.beside {x y : IVec S2048x64 32} (hx : Small x) (hy : Small y) : Small (beside x y) := fun j => by
  unfold TcVal.beside
  rw [concatenate_pair_apply]
  split
  · exact hx _
  · exact hy _

/-- The partners of such are such. -/
theorem Small.partner128 {x : IVec S2048x128 32} (hx : Small x) (c u : BitVec 32) : Small (partner128 c u x) :=
  Small.select _ (fun _ => hx _) (fun _ => hx _)

/-- A step of the first sort keeps them such. -/
theorem Small.stepA {p : FVec F S2048x128 .f32 × IVec S2048x128 32} (a c u : BitVec 32) (hp : Small p.2) : Small (stepA a c u p).2 :=
  Small.select _ (hp.partner128 _ _) hp

/-- A step of the second sort keeps them such. -/
theorem Small.stepB {p : IVec S2048x128 32 × FVec F S2048x64 .f32} (a c u : BitVec 32) (hp : Small p.1) : Small (stepB a c u p).1 :=
  Small.beside (Small.select _ (fun _ => hp.partner128 _ _ _) (fun _ => hp _)) (Small.select _ (fun _ => hp.partner128 _ _ _) (fun _ => hp _))

/-- What every step keeps, a fold of steps keeps. -/
theorem foldl_keeps {σ β : Type} (P : σ → Prop) (f : σ → β → σ) (hf : ∀ s b, P s → P (f s b)) (l : List β) (s : σ) (hs : P s) : P (l.foldl f s) := by
  induction l generalizing s with
  | nil => exact hs
  | cons b l ih => exact ih _ (hf s b hs)

/-- The row numbers themselves. -/
theorem small_iota : Small (iota .tc S2048x128 32 [0] iota_S2048x128_d0_w32) := fun j => by
  have hj : (j 0).val < 2048 := (j 0).isLt
  show (BitVec.ofNat 32 (0 * _ + (j 0).val)).toNat < 2048
  rw [BitVec.toNat_ofNat]
  omega

/-- The sorted block's numbers are row numbers. -/
theorem small_sorted (x : Vec F S2048x128 .f32) : Small (sorted x).1 := by
  unfold sorted sortB sortA
  refine foldl_keeps (fun p : IVec S2048x128 32 × FVec F S2048x64 .f32 => Small p.1) _ (fun p k hp => ?_) _ _ ?_
  · exact foldl_keeps (fun p : IVec S2048x128 32 × FVec F S2048x64 .f32 => Small p.1) _ (fun p t hp => Small.stepB _ _ _ hp) _ _ hp
  · refine foldl_keeps (fun p : FVec F S2048x128 .f32 × IVec S2048x128 32 => Small p.2) _ (fun p k hp => ?_) _ _ small_iota
    exact foldl_keeps (fun p : FVec F S2048x128 .f32 × IVec S2048x128 32 => Small p.2) _ (fun p t hp => Small.stepA _ _ _ hp) _ _ hp

/-- The sort's integer result holds row numbers. -/
theorem small_col (x : Vec F S2048x128 .f32) : Small (k0_pay249 (sorted x).1) :=
  Small.beside (fun _ => small_sorted x _) (fun _ => small_sorted x _)

end Cert.Proof.TcVal

end
-- ==== Proof.TcBody.lean ====
/-
  The run of the TensorCore kernel's body: from a block of values it leaves the sorted block's columns and values.
-/
module

public import proofs.«01_k».proof.Proof.Base
public import proofs.«01_k».proof.Proof.TcVal
public import Idealize.ShloMosaic.Lib.VecWindow

@[expose] public section

noncomputable section

namespace Cert.Proof.TcBody

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Base Cert.Proof.TcVal

variable {F : FTy → Type} [FloatOps F]

local notation "𝕄" => MT nD τ sig (HIx 1) (Elt F) ℕ UU ℕ

/-- The body, from its three blocks held: the first comes back as it was, the others sorted. -/
theorem body_run (c : Dev nD) (i : grid0.Coords) (M0 : Memref sig .tc .vmem S2048x128 .f32) (h0 : M0.IsWhole) (M1 : Memref sig .tc .vmem S2048x128 .i32) (h1 : M1.IsWhole)
    (M2 : Memref sig .tc .vmem S2048x128 .f32) (h2 : M2.IsWhole) (X : Vec F S2048x128 .f32) (Y : Vec F S2048x128 .i32) (Z : Vec F S2048x128 .f32)
    (E : Set ℕ) (Q : PUnit → sProp 𝕄) :
    iprop(owns (c : Thread nD τ) M0 fullShare X ∗ owns (c : Thread nD τ) M1 fullShare Y ∗ owns (c : Thread nD τ) M2 fullShare Z
        ∗ (iprop(owns (c : Thread nD τ) M0 fullShare X ∗ owns (c : Thread nD τ) M1 fullShare (k0_pay249 (sorted X).1)
          ∗ owns (c : Thread nD τ) M2 fullShare (k0_pay250 (sorted X).2)) -∗ Q ⟨⟩))
      ⊢ wp frame (wpE (defs₀ (F := F)) Variants.none c none) E (cc0__tc_sort_body i M0 h0 M1 h1 M2 h2) Q := by
  rw [body_eq]
  unfold owns
  iintro ⟨⟨%f0, %hf0, H0⟩, ⟨%f1, %hf1, H1⟩, ⟨%f2, %hf2, H2⟩, Hk⟩
  sl_exec!
  sl_step
  iapply Hk
  isplitl [H0]
  · iexists f0
    isplitr
    · ipureintro; exact hf0
    iexact H0
  isplitl [H1]
  · iexists _
    isplitr; swap; (· iexact H1)
    ipureintro
    unfold body_run.sl.H1_1
    exact (View.read_writes_full ..).trans (by rw [View.readAt_full, hf0])
  · iexists _
    isplitr; swap; (· iexact H2)
    ipureintro
    unfold body_run.sl.H2_1
    exact (View.read_writes_full ..).trans (by rw [View.readAt_full, hf0])

end Cert.Proof.TcBody

end
-- ==== Proof.TcRegion.lean ====
/-
  The TensorCore call of @main as a region: its proof data at the contents its arrays enter with, its body obligation,
  and the region over every unscoped buffer of the core, entered while the core owes the SparseCores their starts.
-/
module

public import proofs.«01_k».proof.Proof.TcBody
public import proofs.«01_k».proof.Proof.Gen.KernelIdeal.Launch
public import proofs.«01_k».proof.Proof.Gen.KernelIdeal.Points
public import Idealize.ShloMosaic.Lib.Pipeline.ValueKit

@[expose] public section

set_option maxRecDepth 16384

noncomputable section

namespace Cert.Proof.TcRegion

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)
open Cert.Proof.Base Cert.Proof.TcVal

variable {F : FTy → Type} [FloatOps F]

local notation "𝕄" => MT nD τ sig (HIx 1) (Elt F) ℕ UU ℕ

variable (V : (c : Dev nD) → (b : Ref sig .tc) → Buf (Elt F) ((c : Thread nD τ).loc b))

/-- The block the call fetches at a point, of the array it enters with. -/
abbrev stg (c : Dev nD) (t : Fin cfg0.N) : Vec F S2048x128 .f32 := ((cfg0.win 0).blk t).view.read (Elt F) (V c main_v5)

/-- The proof data: the arrays at the entry contents; after the body the first block as fetched, the others sorted; owed
    throughout what the core owes before the SparseCore call. -/
def dat (c : Dev nD) : Dat τ (Elt F) (HIx 1) ℕ UU ℕ cfg0 c where
  A w := V c (Pipeline.arrRef spec0 w)
  after w t := match w with
    | ⟨0, _⟩ => stg V c t
    | ⟨1, _⟩ => k0_pay249 (sorted (stg V c t)).1
    | ⟨2, _⟩ => k0_pay250 (sorted (stg V c t)).2
  Φ _ := Pipeline.scopedRest (Ix := HIx 1) (Name := ℕ) (U := UU) (Lvl := ℕ) (Val := Elt F) spec0 c
  q _ := fullShare
  owed _ := (K (F := F)).Otc c 0
  recorded _ := {p | (K (F := F)).lev (SparseCore.T c, p.1) p.2 ≤ 0}

variable (adm : (p : Fin 1) → (pcfgs (F := F) p).Adm)

/-- The proof data, per pipeline: there is one. -/
def pdats : (p : Fin 1) → (c : Dev nD) → Dat τ (Elt F) (HIx 1) ℕ UU ℕ (Pipeline.pin (pcfgs (F := F)) adm p) c
  | ⟨0, _⟩ => fun c => dat V c

/-- The fetched window's buffer holds its block when the body runs. -/
theorem before_in (c : Dev nD) (t : Fin cfg0.N) (d : (cfg0.win 0).block.Idx → Elt F (cfg0.win 0).elt) : (dat V c).before 0 t d = stg V c t := by
  unfold Dat.before; rw [if_pos (fetch0_0 t)]; rfl

/-- The body obligation: the three staging buffers taken to the body's run and put back. -/
theorem body_obligation (c : Dev nD) : BodyObligation (dat V c) (defs₀ (F := F)) 𝒱₀ (none : HIx 1) Set.univ := fun t => by
  rw [bigSep_W0, bigSep_W0]
  rw [show (dat V c).Φ t.succ = (dat V c).Φ t.castSucc from rfl,
    show (dat V c).owesAt (none : HIx 1) t.succ = (dat V c).owesAt (none : HIx 1) t.castSucc from rfl]
  iintro ⟨HΦ, Howes, ⟨%d0, H0⟩, ⟨%d1, H1⟩, ⟨%d2, H2⟩⟩
  rw [before_in]
  iapply (TcBody.body_run (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (stg V c t) _ _ Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The region over the thread state -/

/-- What the core owes before the SparseCore call is owed at no index of the pipeline's waits. -/
theorem Otc_none (c : Dev nD) (g : GSem nD τ sig) : (K (F := F)).Otc (N := 1) c 0 g none = 0 := by
  by_contra h
  have h2 := SparseCore.Cfg.lev_of_Otc_pos (K := K (F := F)) (Nat.pos_of_ne_zero h)
  rw [SparseCore.Cfg.lev_none] at h2
  omega

/-- What the core owes before the SparseCore call, with a record of waits below every handshake. -/
def owing (c : Dev nD) : sProp 𝕄 :=
  iprop(∃ W, ⌜(K (F := F)).WBelow (SparseCore.T c) W 0⌝ ∗ owes (SparseCore.T c) ((K (F := F)).Otc c 0) W)

-- the region leaves any `Vp` that has the two results at what the library computes and agrees with `V` elsewhere
variable (Vp : (c : Dev nD) → (b : Ref sig .tc) → Buf (Elt F) ((c : Thread nD τ).loc b))

set_option backward.isDefEq.respectTransparency.types false in
/-- The region: entered by splitting the three arrays out of the unscoped buffers, left with them put back at `Vp`; the
    rest of the buffers and `R` go past it. -/
def reg (R : Dev nD → sProp 𝕄) (hVp_1 : ∀ c, Vp c main_v6_0 = (dat V c).arrAt 1 cfg0.N) (hVp_2 : ∀ c, Vp c main_v6_1 = (dat V c).arrAt 2 cfg0.N)
    (hVp_ne : ∀ c (b : Ref sig .tc), b ≠ main_v6_0 → b ≠ main_v6_1 → Vp c b = V c b) :
    Pipeline.RegionSeg (pcfgs (F := F)) adm (pdats V adm) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro (Pipeline.pin (pcfgs (F := F)) adm) (pdats V adm) (none : HIx 1) 0 c fun w s t =>
    (K (F := F)).mayWait_none _ (fun g => Otc_none (F := F) c g)
  pre c := iprop(unscopedBufs c (V c) ∗ R c ∗ owing (F := F) c)
  post c := iprop(unscopedBufs c (Vp c) ∗ R c ∗ owing (F := F) c)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owing Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V adm 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V adm 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hVp_ne c main_v5 (by decide) (by decide)).symm
        · exact (hVp_1 c).symm
        · exact (hVp_2 c).symm)
      (fun b hb => hVp_ne c b (fun h => hb (h ▸ Finset.mem_image.mpr ⟨1, Finset.mem_univ _, rfl⟩))
        (fun h => hb (h ▸ Finset.mem_image.mpr ⟨2, Finset.mem_univ _, rfl⟩)))
    iintro ⟨Ha, HO, -, Hrest, HR⟩
    imodintro
    isplitl [Ha Hrest]
    · iapply hjoin; isplitl [Ha] <;> iassumption
    isplitl [HR]; · iexact HR
    unfold owing Pipeline.Dat.owesAt Pipeline.owesWithin
    icases HO with ⟨%W, %hW, HO⟩; iexists W; isplitr
    · ipureintro
      intro p hp
      rcases hW hp with h | h
      · exact h
      · obtain ⟨w, s, rfl⟩ := h
        exact le_of_eq (SparseCore.Cfg.lev_none ..)
    iexact HO

end Cert.Proof.TcRegion

end
-- ==== Proof.TcOut.lean ====
/-
  What the TensorCore call leaves in its two results: each head's 128 columns sorted by themselves.
-/
module

public import proofs.«01_k».proof.Proof.TcRegion
public import Idealize.ShloMosaic.Lib.Pointwise

@[expose] public section

set_option maxRecDepth 16384

noncomputable section

namespace Cert.Proof.TcOut

open Cert.KernelIdeal Cert.KernelIdeal.Gen

open Idealize.ShloMosaic
open Idealize.ShloMosaic.TcCoe
open Idealize.ShloMosaic.SparseCore.Cfg (HIx)
open Idealize.SL Idealize.SL.RA Idealize.SL.BI
open Idealize.ShloMosaic.Pipeline (Dat Cfg Window)
open Cert.Proof.Base Cert.Proof.TcVal Cert.Proof.TcRegion

variable {F : FTy → Type} [FloatOps F]

/-- Head `h`'s 128 columns. -/
def headIn (x : Vec F S2048x1536 .f32) (h : Fin 12) : Vec F S2048x128 .f32 := fun j =>
  x (ix2 (j 0) ⟨128 * h.val + (j 1).val, by have := h.isLt; have : (j 1).val < 128 := (j 1).isLt; omega⟩)

/-- The head of a column. -/
def headOf (J : S2048x1536.Idx) : Fin 12 := ⟨(J 1).val / 128, by have : (J 1).val < 1536 := (J 1).isLt; omega⟩

/-- A position within its head. -/
def within (J : S2048x1536.Idx) : S2048x128.Idx := ix2 (J 0) ⟨(J 1).val % 128, Nat.mod_lt _ (by decide)⟩

/-- The integer result: every head's. -/
def outCol (x : Vec F S2048x1536 .f32) : Vec F S2048x1536 .i32 := fun J => k0_pay249 (sorted (headIn x (headOf J))).1 (within J)

/-- The float result: every head's. -/
def outVal (x : Vec F S2048x1536 .f32) : Vec F S2048x1536 .f32 := fun J => k0_pay250 (sorted (headIn x (headOf J))).2 (within J)

variable (V : (c : Dev nD) → (b : Ref sig .tc) → Buf (Elt F) ((c : Thread nD τ).loc b))

/-- A point's block of the input is the point's head. -/
theorem index_0 : ∀ t : Fin cfg0.N, win0_0.index t 0 = 0 ∧ win0_0.index t 1 = t.val := by decide +kernel
/-- A point's block of the integer result is the point's head. -/
theorem index_1 : ∀ t : Fin cfg0.N, win0_1.index t 0 = 0 ∧ win0_1.index t 1 = t.val := by decide +kernel
/-- A point's block of the float result is the point's head. -/
theorem index_2 : ∀ t : Fin cfg0.N, win0_2.index t 0 = 0 ∧ win0_2.index t 1 = t.val := by decide +kernel

/-- A point as a head. -/
def headAt (t : Fin cfg0.N) : Fin 12 := ⟨t.val, t.isLt.trans_eq N_0⟩

/-- The block fetched at a point is that head's columns. -/
theorem stg_eq (c : Dev nD) (t : Fin cfg0.N) : stg V c t = headIn (V c main_v5) (headAt t) := by
  funext y
  unfold stg headIn headAt
  blk_ext [index_0 t]

/-- A place whose column is `128 t + y` is head `t`'s, at `y`. -/
theorem place_of (J : S2048x1536.Idx) (t : Fin cfg0.N) (y : S2048x128.Idx) (h0 : (J 0).val = (y 0).val) (h1 : (J 1).val = t.val * 128 + (y 1).val) :
    headOf J = headAt t ∧ within J = y := by
  have hy : (y 1).val < 128 := (y 1).isLt
  constructor
  · apply Fin.ext
    show (J 1).val / 128 = t.val
    omega
  · funext a
    refine Fin.cases ?_ (fun a => ?_) a
    · exact Fin.ext h0
    · have ha : a = 0 := Subsingleton.elim _ _
      subst ha
      apply Fin.ext
      show (J 1).val % 128 = (y 1).val
      omega

/-- The integer result after the call. -/
theorem arrAt_col (c : Dev nD) : (dat V c).arrAt 1 cfg0.N = outCol (V c main_v5) := by
  refine (dat V c).arrAt_eq_of_covers 1 _ (by decide +kernel) fun t hf y => ?_
  show k0_pay249 (sorted (stg V c t)).1 y = _
  obtain ⟨e1, e2⟩ := place_of (((cfg0.win 1).blk t).view.emb y) t y (by blk_simp [index_1 t]) (by blk_simp [index_1 t])
  unfold outCol
  rw [stg_eq, e1, e2]

/-- The float result after the call. -/
theorem arrAt_val (c : Dev nD) : (dat V c).arrAt 2 cfg0.N = outVal (V c main_v5) := by
  refine (dat V c).arrAt_eq_of_covers 2 _ (by decide +kernel) fun t hf y => ?_
  show k0_pay250 (sorted (stg V c t)).2 y = _
  obtain ⟨e1, e2⟩ := place_of (((cfg0.win 2).blk t).view.emb y) t y (by blk_simp [index_2 t]) (by blk_simp [index_2 t])
  unfold outVal
  rw [stg_eq, e1, e2]

/-- Every entry of the integer result is below 2048. -/
theorem outCol_small (x : Vec F S2048x1536 .f32) (J : S2048x1536.Idx) : (outCol x J).toNat < 2048 := small_col _ _

end Cert.Proof.TcOut

end
-- ==== Proof.Host.lean ====
/-
  The kernel's @main on the TensorCore: its host operations around the two calls, the contents of every buffer after
  each part, and the run of it.
-/
module

public import proofs.«01_k».proof.Proof.Deal
public import proofs.«01_k».proof.Proof.TcOut

@[expose] public section

noncomputable section

namespace Cert.Proof.Host

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.ScVal Cert.Proof.Base Cert.Proof.Tile Cert.Proof.TcOut

variable {F : FTy → Type} [FloatOps F]

local notation "𝕄" => MT nD τ sig (HIx 1) (Elt F) ℕ UU ℕ

/-- The host operations before the TensorCore call. -/
def opsA : List (HloOp τ sig (Elt F)) := [
  StableHlo.reshape main_arg0 main_v0 (rfl : (.f32 : EltTy) = .f32) shapeCasts_S1x12x2048x64_S12x2048x64,
  StableHlo.unary main_v0 main_v1 ((transpose S2048x12x64 [1, 0, 2] · transposes_S12x2048x64_S2048x12x64_1_0_2) : (⟨S12x2048x64, .f32⟩ : BufTy).Contents (Elt F) → (⟨S2048x12x64, .f32⟩ : BufTy).Contents (Elt F)),
  StableHlo.reshape main_arg1 main_v2 (rfl : (.f32 : EltTy) = .f32) shapeCasts_S1x12x2048x64_S12x2048x64,
  StableHlo.unary main_v2 main_v3 ((transpose S2048x12x64 [1, 0, 2] · transposes_S12x2048x64_S2048x12x64_1_0_2) : (⟨S12x2048x64, .f32⟩ : BufTy).Contents (Elt F) → (⟨S2048x12x64, .f32⟩ : BufTy).Contents (Elt F)),
  StableHlo.binary main_v1 main_v3 main_v4 ((fun a b => concatenate S2048x12x128 2 [⟨S2048x12x64, a⟩, ⟨S2048x12x64, b⟩] concatenates_S2048x12x64_S2048x12x64_S2048x12x128_d2) : (⟨S2048x12x64, .f32⟩ : BufTy).Contents (Elt F) → (⟨S2048x12x64, .f32⟩ : BufTy).Contents (Elt F) → (⟨S2048x12x128, .f32⟩ : BufTy).Contents (Elt F)),
  StableHlo.reshape main_v4 main_v5 (rfl : (.f32 : EltTy) = .f32) shapeCasts_S2048x12x128_S2048x1536]

/-- The host operations between the two calls. -/
def opsB : List (HloOp τ sig (Elt F)) := [
  StableHlo.reshape main_v6_0 main_v7 (rfl : (.i32 : EltTy) = .i32) shapeCasts_S2048x1536_S2048x12x128,
  StableHlo.unary main_v7 main_v8 ((extractStridedSlice S2048x12x64 ![0, 0, 0] · slices_S2048x12x128_S2048x12x64_0_0_0) : (⟨S2048x12x128, .i32⟩ : BufTy).Contents (Elt F) → (⟨S2048x12x64, .i32⟩ : BufTy).Contents (Elt F)),
  StableHlo.reshape main_v8 main_v9 (rfl : (.i32 : EltTy) = .i32) shapeCasts_S2048x12x64_S2048x768,
  StableHlo.reshape main_v6_1 main_v10 (rfl : (.f32 : EltTy) = .f32) shapeCasts_S2048x1536_S2048x12x128,
  StableHlo.unary main_v10 main_v11 ((extractStridedSlice S2048x12x64 ![0, 0, 64] · slices_S2048x12x128_S2048x12x64_0_0_64) : (⟨S2048x12x128, .f32⟩ : BufTy).Contents (Elt F) → (⟨S2048x12x64, .f32⟩ : BufTy).Contents (Elt F)),
  StableHlo.reshape main_v11 main_v12 (rfl : (.f32 : EltTy) = .f32) shapeCasts_S2048x12x64_S2048x768,
  StableHlo.reshape main_v9 main_v13 (rfl : (.i32 : EltTy) = .i32) shapeCasts_S2048x768_S16x128x12x64,
  StableHlo.unary main_v13 main_v14 ((transpose S12x16x64x128 [2, 0, 3, 1] · transposes_S16x128x12x64_S12x16x64x128_2_0_3_1) : (⟨S16x128x12x64, .i32⟩ : BufTy).Contents (Elt F) → (⟨S12x16x64x128, .i32⟩ : BufTy).Contents (Elt F)),
  StableHlo.reshape main_v14 main_v15 (rfl : (.i32 : EltTy) = .i32) shapeCasts_S12x16x64x128_S1572864,
  StableHlo.reshape main_v12 main_v16 (rfl : (.f32 : EltTy) = .f32) shapeCasts_S2048x768_S16x128x12x64,
  StableHlo.unary main_v16 main_v17 ((transpose S12x16x64x128 [2, 0, 3, 1] · transposes_S16x128x12x64_S12x16x64x128_2_0_3_1) : (⟨S16x128x12x64, .f32⟩ : BufTy).Contents (Elt F) → (⟨S12x16x64x128, .f32⟩ : BufTy).Contents (Elt F)),
  StableHlo.reshape main_v17 main_v18 (rfl : (.f32 : EltTy) = .f32) shapeCasts_S12x16x64x128_S1572864,
  StableHlo.reshape main_arg2 main_v19 (rfl : (.i1 : EltTy) = .i1) shapeCasts_S1x12x2048x2048_S12x2048x2048,
  StableHlo.unary main_v19 main_v20 ((extui 8 · natLt_1_8) : (⟨S12x2048x2048, .i1⟩ : BufTy).Contents (Elt F) → (⟨S12x2048x2048, .i8⟩ : BufTy).Contents (Elt F)),
  StableHlo.reshape main_v20 main_v21 (rfl : (.i8 : EltTy) = .i8) shapeCasts_S12x2048x2048_S12582912x4,
  StableHlo.unary main_v21 main_v22 ((fun x => Host.bitcastConvertWiden S12582912 32 x splits_S12582912_w32_S12582912x4_w8) : (⟨S12582912x4, .i8⟩ : BufTy).Contents (Elt F) → (⟨S12582912, .i32⟩ : BufTy).Contents (Elt F))]

/-- The host operation after the SparseCore call. -/
def opsC : List (HloOp τ sig (Elt F)) := [
  StableHlo.reshape main_v23 main_v24 (rfl : (.f32 : EltTy) = .f32) shapeCasts_S50331648_S1x12x2048x2048]

set_option maxRecDepth 65536 in
/-- @main is those operations around the two calls. -/
theorem main_eq (d : Dev nD) : main (F := F) d
    = StableHlo.seqK opsA (Prog.lift (.customCall (SparseCore.inner (Pipeline.entry 0)) ()) >>= fun _ =>
        StableHlo.seqK opsB (sc.run d 0 >>= fun _ => StableHlo.seqK opsC (pure ⟨⟩))) := rfl

/-! ## The contents after each part -/

variable (m : (ℓ : Loc nD τ sig) → Buf (Elt F) ℓ) (d : Dev nD)

/-- A TensorCore buffer as the device names it. -/
abbrev rf (b : Ref sig .tc) : DevRef τ sig := Proc.devRef .tc b

/-- The contents before the TensorCore call. -/
def V1 : Valuation τ sig (Elt F) := StableHlo.after opsA (StableHlo.launchContents m d)
/-- The TensorCore call's input. -/
def x5 : Vec F S2048x1536 .f32 := V1 m d (rf main_v5)
/-- The contents after the TensorCore call. -/
def V2 : Valuation τ sig (Elt F) :=
  Function.update (Function.update (V1 m d) (rf main_v6_0) (outCol (x5 m d))) (rf main_v6_1) (outVal (x5 m d))
/-- The contents before the SparseCore call. -/
def V3 : Valuation τ sig (Elt F) := StableHlo.after opsB (V2 m d)
/-- The SparseCore call's target columns. -/
def col15 : Vec F S1572864 .i32 := V3 m d (rf main_v15)
/-- The SparseCore call's values. -/
def val18 : Vec F S1572864 .f32 := V3 m d (rf main_v18)
/-- The SparseCore call's mask words. -/
def msk22 : Vec F S12582912 .i32 := V3 m d (rf main_v22)
/-- What the SparseCore call finds in its output. -/
def out23 : Vec F S50331648 .f32 := V3 m d (rf main_v23)
/-- The contents after the SparseCore call. -/
def V4 : Valuation τ sig (Elt F) := Function.update (V3 m d) (rf main_v23) (scOut (col15 m d) (val18 m d) (msk22 m d))
/-- The contents at the end. -/
def V5 : Valuation τ sig (Elt F) := StableHlo.after opsC (V4 m d)

/-- The TensorCore call's input from the arguments. -/
def inX (q k : Vec F S1x12x2048x64 .f32) : Vec F S2048x1536 .f32 :=
  shapeCast S2048x1536 (concatenate S2048x12x128 2
    [⟨S2048x12x64, transpose S2048x12x64 [1, 0, 2] (shapeCast S12x2048x64 q shapeCasts_S1x12x2048x64_S12x2048x64) transposes_S12x2048x64_S2048x12x64_1_0_2⟩,
     ⟨S2048x12x64, transpose S2048x12x64 [1, 0, 2] (shapeCast S12x2048x64 k shapeCasts_S1x12x2048x64_S12x2048x64) transposes_S12x2048x64_S2048x12x64_1_0_2⟩]
    concatenates_S2048x12x64_S2048x12x64_S2048x12x128_d2) shapeCasts_S2048x12x128_S2048x1536

/-- The SparseCore call's order of a call's left halves. -/
def flatL {e : EltTy} (x : Vec F S2048x1536 e) : Vec F S1572864 e :=
  shapeCast S1572864 (transpose S12x16x64x128 [2, 0, 3, 1] (shapeCast S16x128x12x64 (shapeCast S2048x768
    (extractStridedSlice S2048x12x64 ![0, 0, 0] (shapeCast S2048x12x128 x shapeCasts_S2048x1536_S2048x12x128) slices_S2048x12x128_S2048x12x64_0_0_0)
    shapeCasts_S2048x12x64_S2048x768) shapeCasts_S2048x768_S16x128x12x64) transposes_S16x128x12x64_S12x16x64x128_2_0_3_1) shapeCasts_S12x16x64x128_S1572864

/-- The SparseCore call's order of a call's right halves. -/
def flatR {e : EltTy} (x : Vec F S2048x1536 e) : Vec F S1572864 e :=
  shapeCast S1572864 (transpose S12x16x64x128 [2, 0, 3, 1] (shapeCast S16x128x12x64 (shapeCast S2048x768
    (extractStridedSlice S2048x12x64 ![0, 0, 64] (shapeCast S2048x12x128 x shapeCasts_S2048x1536_S2048x12x128) slices_S2048x12x128_S2048x12x64_0_0_64)
    shapeCasts_S2048x12x64_S2048x768) shapeCasts_S2048x768_S16x128x12x64) transposes_S16x128x12x64_S12x16x64x128_2_0_3_1) shapeCasts_S12x16x64x128_S1572864

/-- The mask as words of four. -/
def maskW (b : Vec F S1x12x2048x2048 .i1) : Vec F S12582912 .i32 :=
  Host.bitcastConvertWiden S12582912 32 (shapeCast S12582912x4 (extui 8 (shapeCast S12x2048x2048 b shapeCasts_S1x12x2048x2048_S12x2048x2048) natLt_1_8)
    shapeCasts_S12x2048x2048_S12582912x4) splits_S12582912_w32_S12582912x4_w8

/-- The program's result from the arguments. -/
def result (q k : Vec F S1x12x2048x64 .f32) (b : Vec F S1x12x2048x2048 .i1) : Vec F S1x12x2048x2048 .f32 :=
  shapeCast S1x12x2048x2048 (scOut (flatL (outCol (inX q k))) (flatR (outVal (inX q k))) (maskW b)) shapeCasts_S50331648_S1x12x2048x2048

/-- An argument as launched. -/
abbrev arg0 : Vec F S1x12x2048x64 .f32 := m ((d : Thread nD τ).loc main_arg0)
/-- An argument as launched. -/
abbrev arg1 : Vec F S1x12x2048x64 .f32 := m ((d : Thread nD τ).loc main_arg1)
/-- An argument as launched. -/
abbrev arg2 : Vec F S1x12x2048x2048 .i1 := m ((d : Thread nD τ).loc main_arg2)

set_option maxRecDepth 16384 in
/-- The TensorCore call's input. -/
theorem x5_eq : x5 m d = inX (arg0 m d) (arg1 m d) := by
  unfold x5 V1 opsA
  after_results_simp
  rfl

/-- A buffer that is neither of the TensorCore call's results is as before it. -/
theorem V2_ne (b : Ref sig .tc) (h0 : b ≠ main_v6_0) (h1 : b ≠ main_v6_1) : V2 m d (rf b) = V1 m d (rf b) := by
  unfold V2
  rw [Function.update_of_ne (StableHlo.devRef_ne_of_ne h1), Function.update_of_ne (StableHlo.devRef_ne_of_ne h0)]

/-- The TensorCore call's integer result. -/
theorem V2_col : V2 m d (rf main_v6_0) = outCol (x5 m d) := by
  unfold V2
  rw [Function.update_of_ne (StableHlo.devRef_ne_of_ne (by decide)), Function.update_self]

/-- The TensorCore call's float result. -/
theorem V2_val : V2 m d (rf main_v6_1) = outVal (x5 m d) := by
  unfold V2
  rw [Function.update_self]

set_option maxRecDepth 16384 in
/-- An argument before the SparseCore call. -/
theorem V2_arg2 : V2 m d (rf main_arg2) = arg2 m d := by
  rw [V2_ne m d _ (by decide) (by decide)]
  unfold V1 opsA
  after_results_simp

set_option maxRecDepth 16384 in
/-- The SparseCore call's target columns. -/
theorem col15_eq : col15 m d = flatL (outCol (x5 m d)) := by
  unfold col15 V3 opsB
  after_results_simp
  rw [V2_col]
  rfl

set_option maxRecDepth 16384 in
/-- The SparseCore call's values. -/
theorem val18_eq : val18 m d = flatR (outVal (x5 m d)) := by
  unfold val18 V3 opsB
  after_results_simp
  rw [V2_val]
  rfl

set_option maxRecDepth 16384 in
/-- The SparseCore call's mask words. -/
theorem msk22_eq : msk22 m d = maskW (arg2 m d) := by
  unfold msk22 V3 opsB
  after_results_simp
  rw [V2_arg2]
  rfl

/-- Every target column is below 2048. -/
theorem col15_small (x : S1572864.Idx) : (col15 m d x).toNat < 2048 := by
  rw [col15_eq]
  exact outCol_small _ _

set_option maxRecDepth 16384 in
/-- The result at the end. -/
theorem V5_result : V5 m d (rf main_v24) = result (arg0 m d) (arg1 m d) (arg2 m d) := by
  unfold V5 opsC
  after_results_simp
  unfold V4
  rw [Function.update_self, col15_eq, val18_eq, msk22_eq, x5_eq]
  rfl

set_option maxRecDepth 16384 in
/-- An argument is unchanged at the end. -/
theorem V5_arg (b : Ref sig .tc) (hb : b = main_arg0 ∨ b = main_arg1 ∨ b = main_arg2) : V5 m d (rf b) = m ((d : Thread nD τ).loc b) := by
  rcases hb with rfl | rfl | rfl
  all_goals
    unfold V5 opsC
    after_results_simp
    unfold V4
    rw [Function.update_of_ne (StableHlo.devRef_ne_of_ne (by decide))]
    unfold V3 opsB
    after_results_simp
    rw [V2_ne m d _ (by decide) (by decide)]
    unfold V1 opsA
    after_results_simp

end Cert.Proof.Host

end
-- ==== Proof.Launch.lean ====
/-
  The run of the whole program: the launch's ghost state, @main's run through both calls, and what every execution
  leaves.
-/
module

public import proofs.«01_k».proof.Proof.Host

@[expose] public section

noncomputable section

namespace Cert.Proof.Launch

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.Rounds
open Idealize.SL Idealize.SL.RA Idealize.SL.BI
open scoped Idealize.SL.BI
open Idealize.SL.BI.BIBase Idealize.SL.BI.Laws Idealize.SL.ProofMode Idealize.SL.Sem
open Cert.Proof.ScVal Cert.Proof.Base Cert.Proof.Tile Cert.Proof.TcOut Cert.Proof.Host Cert.Proof.TcRegion

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state -/

/-- The pipeline's tables at launch. -/
def adm : (p : Fin 1) → (pcfgs (F := F) p).Adm := fun p => (cfgs p).toPCfg_adm

/-- The staging cells are distinct. -/
theorem pinj : Function.Injective (Pipeline.cellOf (nD := nD) (τ := τ) (Pipeline.pin (pcfgs (F := F)) adm)) := cellOf_inj

/-- The launch element: the handshakes', the pipeline's, the transfers'. -/
def u₀ : UU := (initOf (K (F := F)).hsCells (K (F := F)).hsToks,
  (initOf (Pipeline.cells (Pipeline.pin (pcfgs (F := F)) adm) (pinj (F := F))) (Pipeline.launchToks (Pipeline.pin (pcfgs (F := F)) adm) (pinj (F := F))), 1))

/-- What a TensorCore is dealt for its call. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The call's payloads at the contents @main brings. -/
abbrev PP : (K (F := F)).Pay (nD := nD) (Val := Elt F) (Name := ℕ) (U := UU) := Deal.P (col15 m) (val18 m) (msk22 m) (out23 m)

/-- The launch element splits into the handshakes' and every TensorCore's. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks) (initOf (Pipeline.cells (Pipeline.pin (pcfgs (F := F)) adm) (pinj (F := F))) (Pipeline.launchToks (Pipeline.pin (pcfgs (F := F)) adm) (pinj (F := F))), (1 : Counters))) $$ Hu
  icases H with ⟨HH, HR⟩
  ihave H := (own_pair_emb (embR : Emb (UR sig nD τ × Counters) (MT nD τ sig (HIx 1) (Elt F) ℕ UU ℕ)) (initOf (Pipeline.cells (Pipeline.pin (pcfgs (F := F)) adm) (pinj (F := F))) (Pipeline.launchToks (Pipeline.pin (pcfgs (F := F)) adm) (pinj (F := F)))) (1 : Counters)) $$ HR
  icases H with ⟨HP, -⟩
  ihave HP := (show BI.own (((Emb.inl : Emb (UR sig nD τ) (UR sig nD τ × Counters)).trans (embR : Emb (UR sig nD τ × Counters) (MT nD τ sig (HIx 1) (Elt F) ℕ UU ℕ)))
      (initOf (Pipeline.cells (Pipeline.pin (pcfgs (F := F)) adm) (pinj (F := F))) (Pipeline.launchToks (Pipeline.pin (pcfgs (F := F)) adm) (pinj (F := F)))))
      ⊢ BI.own ((EP (F := F)) (initOf (Pipeline.cells (Pipeline.pin (pcfgs (F := F)) adm) (pinj (F := F))) (Pipeline.launchToks (Pipeline.pin (pcfgs (F := F)) adm) (pinj (F := F)))))
      from by unfold EP; exact BI.Entails.refl _) $$ HP
  imod (Pipeline.fund_ghost (Pipeline.pin (pcfgs (F := F)) adm) (EP (F := F)) (pinj (F := F))) $$ HP with ⟨Hg, Ht⟩
  imodintro
  isplitl [HH]; · iexact HH
  isplitl [Hg Ht]
  · rw [bigSep_sep']
    rw [show (fun c : Dev nD => bigSep Finset.univ fun p : Fin 1 => Pipeline.cellsGhost (Pipeline.pin (pcfgs (F := F)) adm) (EP (F := F)) p c)
        = fun c => Pipeline.cellsGhost (Pipeline.pin (pcfgs (F := F)) adm) (EP (F := F)) 0 c from funext fun c => bigSep_univ_of_subsingleton (0 : Fin 1),
      show (fun c : Dev nD => bigSep Finset.univ fun p : Fin 1 => Pipeline.toksInit (Pipeline.pin (pcfgs (F := F)) adm) (EP (F := F)) p c)
        = fun c => Pipeline.toksInit (Pipeline.pin (pcfgs (F := F)) adm) (EP (F := F)) 0 c from funext fun c => bigSep_univ_of_subsingleton (0 : Fin 1)]
    isplitl [Hg] <;> iassumption
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## @main -/

/-- The TensorCore's unscoped buffers. -/
def ucRefs : Finset (DevRef τ sig) := (StableHlo.tcRefs τ sig).filter fun b => ¬ b.isScoped

/-- The unscoped buffers at a valuation are that set held at it. -/
theorem unscoped_held (c : Dev nD) (W : Valuation τ sig (Elt F)) :
    (unscopedBufs c (fun b => W (rf b)) : sProp 𝕄) = StableHlo.held (c : Thread nD τ) ucRefs W := by
  unfold unscopedBufs StableHlo.held ucRefs StableHlo.tcRefs
  rw [Finset.filter_map, bigSep_map]
  rfl

/-- The TensorCore call as a region of @main: `V1` before, `V2` after. -/
def theReg : Pipeline.RegionSeg (pcfgs (F := F)) adm (pdats (fun c b => V1 m c (rf b)) adm) (none : HIx 1) defs₀ 𝒱₀ (K (F := F)).L (K (F := F)).lev 0 :=
  reg (fun c b => V1 m c (rf b)) adm (fun c b => V2 m c (rf b)) (fun _ => iprop(emp))
    (fun c => (V2_col m c).trans (arrAt_col (fun c b => V1 m c (rf b)) c).symm)
    (fun c => (V2_val m c).trans (arrAt_val (fun c b => V1 m c (rf b)) c).symm)
    (fun c b h0 h1 => V2_ne m c b h0 h1)

/-- The four buffers of the SparseCore call. -/
def callRefs : Finset (DevRef τ sig) := {rf main_v15, rf main_v18, rf main_v22, rf main_v23}

/-- They are unscoped. -/
theorem callRefs_sub : callRefs ⊆ ucRefs := by decide

/-- The four buffers held are the call's inputs and its output. -/
theorem held_call (d : Dev nD) (W : Valuation τ sig (Elt F)) :
    (StableHlo.held (d : Thread nD τ) callRefs W : sProp 𝕄)
      = iprop((colLoc d ↦{fullShare} W (rf main_v15)) ∗ (valLoc d ↦{fullShare} W (rf main_v18)) ∗ (mskLoc d ↦{fullShare} W (rf main_v22)) ∗ (outLoc d ↦{fullShare} W (rf main_v23))) := by
  unfold StableHlo.held callRefs
  rw [SparseCore.bigSep_insert' (by decide), SparseCore.bigSep_insert' (by decide), SparseCore.bigSep_insert' (by decide), bigSep_singleton]

/-- The operations before the TensorCore call stay within the unscoped buffers. -/
theorem subA : ∀ op ∈ opsA (F := F), op.bufs ⊆ ucRefs := by
  simp only [opsA, List.forall_mem_cons, StableHlo.unary_bufs, StableHlo.binary_bufs, StableHlo.reshape_bufs, List.not_mem_nil, false_imp_iff,
    implies_true, and_true]
  decide
/-- The operations between the calls stay within the unscoped buffers. -/
theorem subB : ∀ op ∈ opsB (F := F), op.bufs ⊆ ucRefs := by
  simp only [opsB, List.forall_mem_cons, StableHlo.unary_bufs, StableHlo.binary_bufs, StableHlo.reshape_bufs, List.not_mem_nil, false_imp_iff,
    implies_true, and_true]
  decide
/-- The operation after the SparseCore call stays within the unscoped buffers. -/
theorem subC : ∀ op ∈ opsC (F := F), op.bufs ⊆ ucRefs := by
  simp only [opsC, List.forall_mem_cons, StableHlo.unary_bufs, StableHlo.binary_bufs, StableHlo.reshape_bufs, List.not_mem_nil, false_imp_iff,
    implies_true, and_true]
  decide

/-- Every one of these operations determines its results. -/
theorem freshA : ∀ op ∈ opsA (F := F), op.fresh = ∅ := by
  unfold opsA; intro _ h; (repeat (cases h with | head => rfl | tail _ h => ?_)); exact nomatch h

/-- Every one of these operations determines its results. -/
theorem freshB : ∀ op ∈ opsB (F := F), op.fresh = ∅ := by
  unfold opsB; intro _ h; (repeat (cases h with | head => rfl | tail _ h => ?_)); exact nomatch h

/-- Every one of these operations determines its results. -/
theorem freshC : ∀ op ∈ opsC (F := F), op.fresh = ∅ := by
  unfold opsC; intro _ h; (repeat (cases h with | head => rfl | tail _ h => ?_)); exact nomatch h

/-- The buffers @main leaves. -/
abbrev FIN (d : Dev nD) : sProp 𝕄 := StableHlo.held (d : Thread nD τ) ucRefs (V5 m d)

/-- What the TensorCore owes, out of its state before the call, and back in. -/
theorem tcSt_owing (d : Dev nD) :
    ((K (F := F)).tcSt EH d 0 : sProp 𝕄) ⊢ iprop(owing (F := F) d ∗ (owing (F := F) d -∗ (K (F := F)).tcSt EH d 0)) := by
  unfold SparseCore.Cfg.tcSt
  rw [show 8 * SparseCore.Cfg.Blocks.fst 1 1 0 = 0 from rfl]
  unfold owing
  iintro ⟨HO, Hrest⟩
  isplitl [HO]; · iexact HO
  iintro HO
  isplitl [HO]; · iexact HO
  iexact Hrest

/-- The TensorCore call of @main is the pipeline's entry, lifted. -/
theorem call_eq (d : Dev nD) : (Prog.lift (.customCall (SparseCore.inner (Pipeline.entry 0)) ()) :
      Prog (TpuEff nD τ sig (Elt F) (SparseCore.Sig (ΛP (F := F)) 1) (SparseCore.T d : Thread nD τ).2) PUnit)
    = SparseCore.liftProg (.op (.customCall (Pipeline.entry 0) ()) fun x => .ret x) := rfl

set_option backward.isDefEq.respectTransparency.types false in
/-- The TensorCore call in @main: from the contents before it to the contents after it. -/
theorem region_run (d : Dev nD) (Q : PUnit → sProp 𝕄) :
    iprop(levAts (K (F := F)).L (K (F := F)).lev ∗ boundary (d : Thread nD τ) ∗ StableHlo.held (d : Thread nD τ) ucRefs (V1 m d) ∗ owing (F := F) d ∗ G (F := F) d
        ∗ (iprop(boundary (d : Thread nD τ) ∗ StableHlo.held (d : Thread nD τ) ucRefs (V2 m d) ∗ owing (F := F) d) -∗ Q ⟨⟩))
      ⊢ wp frame (wpE ((K (F := F)).defs (D (F := F))) 𝒱 (SparseCore.T d) none) Set.univ
          (Prog.lift (.customCall (SparseCore.inner (Pipeline.entry 0)) ())) Q := by
  rw [call_eq d]
  iintro ⟨#Hlv, Hb, Hh, HO, ⟨Hg, Ht⟩, Hk⟩
  iapply ((K (F := F)).wp_liftProg (D (F := F)) 𝒱 (SparseCore.T d) Set.univ none _ _)
  iapply (Pipeline.RegionSeg.wp (pcfgs (F := F)) adm (pdats (fun c b => V1 m c (rf b)) adm) (none : HIx 1) (pinj (F := F)) (EP (F := F)) defs₀ 𝒱₀
    (K (F := F)).L (K (F := F)).lev (theReg m) d none (fun u h => nomatch h) (fun x => .ret x) Q)
  isplitl [Hk]
  · iintro ⟨Hb, Hpost⟩
    rw [wp_ret]; imodintro
    iapply Hk
    isplitl [Hb]; · iexact Hb
    ihave Hp := (show (theReg m).post d ⊢ iprop(StableHlo.held (d : Thread nD τ) ucRefs (V2 m d) ∗ emp ∗ owing (F := F) d) from
      Entails.of_eq (by rw [← unscoped_held]; rfl)) $$ Hpost
    icases Hp with ⟨Hh, -, HO⟩
    isplitl [Hh] <;> iassumption
  isplitl [Hb]; · iexact Hb
  isplitl [Hh HO]
  · iapply (show iprop(StableHlo.held (d : Thread nD τ) ucRefs (V1 m d) ∗ emp ∗ owing (F := F) d) ⊢ (theReg m).pre d from
      Entails.of_eq (by rw [← unscoped_held]; rfl))
    isplitl [Hh]; · iexact Hh
    isplitr; · iempintro
    iexact HO
  isplitr; · iexact Hlv
  isplitl [Hg] <;> iassumption

/-- The call's buffers dealt to the cores. -/
theorem st_of (d : Dev nD) (f : Vec F S50331648 .f32) :
    iprop((colLoc d ↦{fullShare} col15 m d) ∗ (valLoc d ↦{fullShare} val18 m d) ∗ (mskLoc d ↦{fullShare} msk22 m d) ∗ (outLoc d ↦{fullShare} f))
      = (bigSep Finset.univ fun c : Fin ((K (F := F)).nCore 0) => Deal.corePart (col15 m) (val18 m) (msk22 m) d (Fin.cast nCore_zero c) f : sProp 𝕄) := by
  rw [← Deal.parts_eq]
  unfold inPts
  have h1 (A B C E : sProp 𝕄) : iprop(A ∗ B ∗ C ∗ E) ⊢ iprop((A ∗ B ∗ C) ∗ E) := by
    iintro ⟨Ha, Hb, Hc, Hd⟩
    isplitr [Hd]
    · isplitl [Ha]; · iexact Ha
      isplitl [Hb] <;> iassumption
    iexact Hd
  have h2 (A B C E : sProp 𝕄) : iprop((A ∗ B ∗ C) ∗ E) ⊢ iprop(A ∗ B ∗ C ∗ E) := by
    iintro ⟨⟨Ha, Hb, Hc⟩, Hd⟩
    isplitl [Ha]; · iexact Ha
    isplitl [Hb]; · iexact Hb
    isplitl [Hc] <;> iassumption
  exact BI.Entails.antisymm (h1 _ _ _ _) (h2 _ _ _ _)

/-- The call's buffers at the contents after it. -/
theorem held_after (d : Dev nD) :
    (StableHlo.held (d : Thread nD τ) callRefs (V4 m d) : sProp 𝕄) = iprop((colLoc d ↦{fullShare} col15 m d) ∗ (valLoc d ↦{fullShare} val18 m d)
      ∗ (mskLoc d ↦{fullShare} msk22 m d) ∗ (outLoc d ↦{fullShare} scOut (col15 m d) (val18 m d) (msk22 m d))) := by
  rw [held_call,
    show V4 m d (rf main_v15) = col15 m d from Function.update_of_ne (StableHlo.devRef_ne_of_ne (by decide)) _ _,
    show V4 m d (rf main_v18) = val18 m d from Function.update_of_ne (StableHlo.devRef_ne_of_ne (by decide)) _ _,
    show V4 m d (rf main_v22) = msk22 m d from Function.update_of_ne (StableHlo.devRef_ne_of_ne (by decide)) _ _,
    show V4 m d (rf main_v23) = scOut (col15 m d) (val18 m d) (msk22 m d) from Function.update_self ..]

/-- What the cores bring back is the call's buffers at the contents after it. -/
theorem call_back (d : Dev nD) :
    (bigSep Finset.univ fun c : Fin ((K (F := F)).nCore 0) => (PP m).dn 0 d c) ⊢ (StableHlo.held (d : Thread nD τ) callRefs (V4 m d) : sProp 𝕄) := by
  rw [held_after, st_of m d (scOut (col15 m d) (val18 m d) (msk22 m d))]
  exact Entails.of_eq rfl

/-- The call's buffers after it and the rest as before are all the buffers after it. -/
theorem call_join (d : Dev nD) :
    iprop(StableHlo.held (d : Thread nD τ) callRefs (V4 m d) ∗ StableHlo.held (d : Thread nD τ) (ucRefs \ callRefs) (V3 m d))
      ⊢ (StableHlo.held (d : Thread nD τ) ucRefs (V4 m d) : sProp 𝕄) := by
  rw [StableHlo.held_sub_split (d : Thread nD τ) callRefs_sub (V4 m d),
    StableHlo.held_congr (V := V3 m d) (V' := V4 m d) (S := ucRefs \ callRefs) (d : Thread nD τ) fun b hb =>
      (Function.update_of_ne (fun h => (Finset.mem_sdiff.mp hb).2 (by rw [h]; decide)) _ _).symm]

set_option backward.isDefEq.respectTransparency.types false in
/-- @main on a TensorCore: the host operations and the two calls in order, every buffer at the end's contents. -/
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (d : Thread nD τ) ucRefs (StableHlo.launchContents m d) from
    unscoped_held d (StableHlo.launchContents m d)]
  iintro ⟨#Hctx, Hst, ⟨Hb, Hh, Hts, -⟩, HG⟩
  ihave #Hlv := (SparseCore.Cfg.ctx_levAts κ) $$ Hctx
  rw [← StableHlo.seq_bind_seqK]
  iapply (StableHlo.wp_seq 𝒱 none Set.univ d ucRefs _ opsA subA freshA (StableHlo.launchContents m d)) $$ [Hb Hh]
  · isplitl [Hb] <;> iassumption
  iintro ⟨Hb, Hh⟩
  rw [wp_bind]
  ihave H := (tcSt_owing (F := F) d) $$ Hst
  icases H with ⟨HO, Hst⟩
  iapply (region_run m d _)
  isplitr; · iexact Hlv
  isplitl [Hb]; · iexact Hb
  isplitl [Hh]; · iexact Hh
  isplitl [HO]; · iexact HO
  isplitl [HG]; · iexact HG
  iintro ⟨Hb, Hh, HO⟩
  ihave Hst := Hst $$ HO
  rw [← StableHlo.seq_bind_seqK]
  iapply (StableHlo.wp_seq 𝒱 none Set.univ d ucRefs _ opsB subB freshB (V2 m d)) $$ [Hb Hh]
  · isplitl [Hb] <;> iassumption
  iintro ⟨Hb, Hh⟩
  rw [wp_bind]
  ihave Hh := (show StableHlo.held (d : Thread nD τ) ucRefs (StableHlo.after opsB (V2 m d)) ⊢ _ from Entails.of_eq (StableHlo.held_sub_split (d : Thread nD τ) callRefs_sub (V3 m d))) $$ Hh
  icases Hh with ⟨Hcall, Hrest⟩
  iapply ((K (F := F)).wp_run (D (F := F)) 𝒱 (EH := EH) (P := PP m) κ d 0)
  isplitr; · iexact Hctx
  isplitl [Hst]; · iexact Hst
  isplitl [Hcall]
  · ihave Hc := (Entails.of_eq ((held_call d (V3 m d)).trans (st_of m d (out23 m d)))) $$ Hcall
    iexact Hc
  iintro ⟨Hst, Hdn⟩
  ihave Hc := (call_back m d) $$ Hdn
  ihave Hh := (call_join m d) $$ [Hc Hrest]
  · isplitl [Hc] <;> iassumption
  rw [← StableHlo.seq_bind_seqK]
  iapply (StableHlo.wp_seq 𝒱 none Set.univ d ucRefs _ opsC subC freshC (V4 m d)) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-! ## The end -/

/-- What a TensorCore's final buffers say. -/
def fq (d : Dev nD) (s' : Phys nD τ sig (Elt F)) : Prop := ∀ b ∈ ucRefs, s'.mem.mem (d, b) = V5 m d b

/-- The buffers held at the end are the final memory's. -/
theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) ucRefs) $$ [HSI H]
  · isplitl [HSI]; · iexact HSI
    iexact H
  ipureintro
  exact h

/-- The program's post: every buffer of @main at the end's contents, every semaphore at zero. -/
def QC : PUnit × MemSt nD τ sig (Elt F) → Prop := fun r =>
  (∀ (c : Dev nD), ∀ b ∈ ucRefs, r.2.mem (c, b) = V5 m c b) ∧ r.2.sem = fun _ => 0

/-- Every execution of the program ends there. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => Deal.tileObl _ _ _ _ (col15_small m))
    (fun q _ => match q with | 0 => SparseCore.Cfg.VecSplit.of_plain (Deal.vecSplit _ _ _ _))
    m ρ main (fun d => G (F := F) d) (FIN m) (u₀ (F := F)) (sep_elim_left.trans (hu₀ m)) (hmain m ρ) (fq m) (hfin m) (QC m) (fun _ h hz => ⟨h, hz⟩)

end Cert.Proof.Launch

end
-- ==== Proof.Rank.lean ====
/-
  The networks of the two sorts, as rearrangements of 2048 rows: a stage takes each row's entry or its partner's, the
  stages in the kernel's order are a bitonic sort, and what a network leaves of distinct entries is their list in order.
-/
module

public import Idealize.ShloMosaic.Lib.SortNet.Printed
public import Idealize.ShloMosaic.Lib.SortNet.HostSort
public import Idealize.ShloMosaic.Lib.SortFacts

@[expose] public section

noncomputable section

namespace Cert.Proof.Rank

open Idealize.ShloMosaic Idealize.ShloMosaic.SortNet

/-- A row of a block. -/
abbrev Row := Fin (2 ^ 11)

/-- Which rows keep the greater of a pair, in the pass of runs of `2 ^ (l + 1)` rows at distance `2 ^ s`. -/
def keep (l s : ℕ) (i : Row) : Bool := decide (i.val &&& 2 ^ s = 0) ^^ decide (i.val &&& 2 ^ (l + 1) = 0)

/-- Flipping a bit leaves another as it was. -/
theorem xor_and_other (a s t : ℕ) (h : s ≠ t) : (a ^^^ 2 ^ s) &&& 2 ^ t = a &&& 2 ^ t := by
  refine Nat.eq_of_testBit_eq fun n => ?_
  rw [Nat.testBit_and, Nat.testBit_xor, Nat.testBit_and, Nat.testBit_two_pow, Nat.testBit_two_pow]
  by_cases hs : s = n
  · rw [decide_eq_false (show ¬ t = n from fun e => h (hs.trans e.symm)), Bool.and_false, Bool.and_false]
  · rw [decide_eq_false hs, Bool.xor_false]

/-- Of a pair, one row keeps the greater and the other the lesser. -/
theorem keep_partner {l s : ℕ} (hs : s ≤ l) (hl : l < 11) (i : Row) : keep l s (partner 11 s i) = !keep l s i := by
  have h11 : s < 11 := by omega
  have h1 : decide ((partner 11 s i).val &&& 2 ^ s = 0) = !decide (i.val &&& 2 ^ s = 0) := by
    by_cases h : i.val &&& 2 ^ s = 0
    · rw [decide_eq_true h, partner_and h11 i h]
      simp
    · rw [decide_eq_false h, decide_eq_true (partner_and_of_set h11 i h)]
      rfl
  have h2 : (partner 11 s i).val &&& 2 ^ (l + 1) = i.val &&& 2 ^ (l + 1) := by
    rw [partner_val h11]
    exact xor_and_other _ _ _ (by omega)
  unfold keep
  rw [h1, h2, Bool.not_xor]

/-- The stage of the sort is the stage with those directions. -/
theorem stage_keep (l s : ℕ) :
    stage 11 s (fun i => (decide (i.val &&& 2 ^ (l + 1) = 0)) == false) = stage 11 s (keep l s) := by
  refine stage_congr fun i hi => ?_
  unfold keep
  rw [decide_eq_true hi]
  cases decide (i.val &&& 2 ^ (l + 1) = 0) <;> rfl

variable {α : Type} [LinearOrder α]

/-- A stage over distinct entries, asked as the kernel asks it: whether a row's entry is less than its partner's. -/
theorem stage_pick {l s : ℕ} (hs : s ≤ l) (hl : l < 11) (v : Row → α) (hv : Function.Injective v) (i : Row) :
    Network.apply (stage 11 s (keep l s)) v i
      = if (keep l s i ^^ true) ^^ decide (v i < v (partner 11 s i)) then v (partner 11 s i) else v i := by
  have h11 : s < 11 := by omega
  rw [apply_stage_select h11 (keep l s) (keep_partner hs hl) v i]
  have hne : v (partner 11 s i) ≠ v i := fun e => by
    have e' := hv e
    by_cases h : i.val &&& 2 ^ s = 0
    · exact partner_ne h11 i i h h e'
    · have := partner_and_of_set h11 i h
      rw [e'] at this
      exact h this
  rcases lt_or_gt_of_ne hne with h | h
  · rw [decide_eq_true h, decide_eq_false (lt_asymm h)]
    cases keep l s i <;> rfl
  · rw [decide_eq_false (lt_asymm h), decide_eq_true h]
    cases keep l s i <;> rfl

/-- A network that is one network after another runs as a loop. -/
theorem apply_flatMap {ι : Type} (g : ι → Network (2 ^ 11)) (L : List ι) (v : Row → α) :
    Network.apply (L.flatMap g) v = L.foldl (fun v x => Network.apply (g x) v) v := by
  induction L generalizing v with
  | nil => rfl
  | cons x L ih => rw [List.flatMap_cons, Network.apply_append, ih]; rfl

/-- The distances of a pass, from the greatest down. -/
theorem reverse_range (l : ℕ) : (List.range (l + 1)).reverse = (List.range (l + 1)).map fun t => l - t := by
  refine List.ext_getElem (by simp) fun i h1 h2 => ?_
  simp only [List.getElem_reverse, List.getElem_range, List.length_range, List.getElem_map]
  omega

/-- The sort, in the kernel's order. -/
theorem apply_sortNet (v : Row → α) :
    Network.apply (sortNet 11 false) v
      = (List.range 11).foldl (fun v l => (List.range (l + 1)).foldl (fun v t => Network.apply (stage 11 (l - t) (keep l (l - t))) v) v) v := by
  unfold sortNet
  rw [apply_flatMap]
  refine congrArg (fun f => List.foldl f v (List.range 11)) (funext fun v => funext fun l => ?_)
  rw [apply_flatMap, reverse_range, List.foldl_map]
  refine congrArg (fun f => List.foldl f v (List.range (l + 1))) (funext fun v => funext fun t => ?_)
  rw [stage_keep]

/-- A loop whose steps follow another's, member by member of the list. -/
theorem foldl_follow {S T ι : Type} (R : S → T → Prop) (f : S → ι → S) (g : T → ι → T) (L : List ι)
    (h : ∀ x ∈ L, ∀ p v, R p v → R (f p x) (g v x)) (p : S) (v : T) (h0 : R p v) : R (L.foldl f p) (L.foldl g v) := by
  induction L generalizing p v with
  | nil => exact h0
  | cons x L ih =>
    exact ih (fun y hy => h y (List.mem_cons_of_mem _ hy)) _ _ (h x List.mem_cons_self p v h0)

/-- Steps that read as the sort's stages leave what reads as the sort of the entries. -/
theorem follow {S : Type} (R : S → (Row → α) → Prop) (step : ℕ → ℕ → S → S)
    (hstep : ∀ l s p v, s ≤ l → l < 11 → Function.Injective v → R p v → R (step l s p) (Network.apply (stage 11 s (keep l s)) v))
    (p : S) (v : Row → α) (hv : Function.Injective v) (h : R p v) :
    R ((List.range 11).foldl (fun p l => (List.range (l + 1)).foldl (fun p t => step l (l - t) p) p) p) (Network.apply (sortNet 11 false) v) := by
  rw [apply_sortNet]
  refine (foldl_follow (fun p v => Function.Injective v ∧ R p v) _ _ _ (fun l hl p v hr => ?_) p v ⟨hv, h⟩).2
  refine foldl_follow (fun p v => Function.Injective v ∧ R p v) _ _ _ (fun t ht p v hr => ?_) p v hr
  rw [List.mem_range] at hl ht
  refine ⟨?_, hstep l (l - t) p v (Nat.sub_le _ _) hl hr.1 hr.2⟩
  obtain ⟨σ, hσ⟩ := Network.exists_perm (stage 11 (l - t) (keep l (l - t))) v
  rw [hσ]
  exact hr.1.comp σ.injective

/-- What the sort leaves: the entries read through a permutation of the rows, ascending. -/
theorem sorted_perm (v : Row → α) : ∃ σ : Equiv.Perm Row, Network.apply (sortNet 11 false) v = v ∘ σ ∧ Monotone (v ∘ σ) := by
  obtain ⟨σ, hσ⟩ := Network.exists_perm (sortNet 11 false) v
  exact ⟨σ, hσ, hσ ▸ sortNet_apply_monotone 11 v⟩

/-- A permutation of the rows that ascends moves none. -/
theorem perm_mono {n : ℕ} (τ : Equiv.Perm (Fin n)) (h : Monotone τ) (i : Fin n) : τ i = i := by
  have hs : StrictMono τ := h.strictMono_of_injective τ.injective
  have h1 : ∀ i, i ≤ τ i := fun i => hs.le_apply
  have hs' : StrictMono τ.symm := fun a b hab => by
    by_contra hc
    have := h (not_lt.mp hc)
    rw [Equiv.apply_symm_apply, Equiv.apply_symm_apply] at this
    exact absurd hab (not_lt.mpr this)
  have h2 : τ i ≤ i := by
    have := hs'.le_apply (x := τ i)
    rwa [Equiv.symm_apply_apply] at this
  exact le_antisymm h2 (h1 i)

/-! ## A stable sort of the rows by their values -/

/-- A row with its value, ordered by value and then by row. -/
abbrev key {β : Type} {n : ℕ} (f : Fin n → β) (i : Fin n) : β ×ₗ Fin n := toLex (f i, i)

/-- Putting a row before the later ones, by value alone, keeps a list in order of value and then of row. -/
theorem insert_ordered {β : Type} [LinearOrder β] {n : ℕ} (f : Fin n → β) (a : Fin n) (L : List (Fin n)) (ha : ∀ b ∈ L, a < b)
    (hL : L.Pairwise fun b c => key f b < key f c) :
    (insertBefore (fun b c => decide (f b < f c)) a L).Pairwise fun b c => key f b < key f c := by
  induction L with
  | nil => exact List.pairwise_singleton _ _
  | cons b L ih =>
    have h1 := List.pairwise_cons.mp hL
    unfold insertBefore
    by_cases hba : f b < f a
    · rw [decide_eq_true hba, if_pos rfl]
      have hk : key f b < key f a := Prod.Lex.lt_iff.mpr (Or.inl hba)
      refine List.pairwise_cons.mpr ⟨fun x hx => ?_, ih (fun x hx => ha x (List.mem_cons_of_mem _ hx)) h1.2⟩
      rcases List.mem_cons.mp ((perm_insertBefore _ a L).mem_iff.mp hx) with e | e
      · exact e ▸ hk
      · exact h1.1 x e
    · rw [decide_eq_false hba, if_neg Bool.false_ne_true]
      have hk : key f a < key f b := Prod.Lex.lt_iff.mpr
        ((lt_or_eq_of_le (not_lt.mp hba)).imp id fun e => ⟨e, ha b List.mem_cons_self⟩)
      refine List.pairwise_cons.mpr ⟨fun x hx => ?_, hL⟩
      rcases List.mem_cons.mp hx with e | e
      · exact e ▸ hk
      · exact hk.trans (h1.1 x e)

/-- A stable sort by value leaves ascending rows in order of value and then of row. -/
theorem stable_ordered {β : Type} [LinearOrder β] {n : ℕ} (f : Fin n → β) (L : List (Fin n)) (hL : L.Pairwise (· < ·)) :
    (stableSort (fun b c => decide (f b < f c)) L).Pairwise fun b c => key f b < key f c := by
  induction L with
  | nil => exact List.Pairwise.nil
  | cons a L ih =>
    have h := List.pairwise_cons.mp hL
    exact insert_ordered f a _ (fun b hb => h.1 b ((perm_stableSort _ L).mem_iff.mp hb)) (ih h.2)

/-- The rearrangement along which values ascend, equal ones by row, is the stable sort's. -/
theorem sortedFrom_eq {β : Type} [LinearOrder β] {n : ℕ} (f : Fin n → β) (σ : Equiv.Perm (Fin n)) (hσ : Monotone fun i => key f (σ i)) (r : Fin n) :
    sortedFrom (fun b c => decide (f b < f c)) r = σ r := by
  have e := ofFn_eq_of_sorted (n := n) id (key f) (fun a b h => congrArg (fun q : β ×ₗ Fin n => (ofLex q).2) h) σ hσ
    (sortPositions n fun b c => decide (f b < f c)) (perm_sortPositions n _)
    ((stable_ordered f (List.finRange n) (List.pairwise_lt_finRange n)).imp fun h => le_of_lt h)
  unfold sortedFrom
  rw [List.get_of_eq e.symm]
  exact List.get_ofFn _ _

end Cert.Proof.Rank

end
-- ==== Proof.SortVal.lean ====
/-
  What the two sorts of a block leave over the extended reals: the first, every column's values in ascending order, each
  with the row it came from (equal values by row); the second, every key in the row it came from, with its column and
  its value.
-/
module

public import proofs.«01_k».proof.Proof.TcVal
public import proofs.«01_k».proof.Proof.Rank
public import Idealize.ShloMosaic.PureOps.Ideal
public import Idealize.ShloMosaic.Lib.Pointwise

@[expose] public section

noncomputable section

namespace Cert.Proof.SortVal

open Cert.KernelIdeal Cert.KernelIdeal.Gen Cert.Proof.TcVal Cert.Proof.Rank
open Idealize.ShloMosaic Idealize.ShloMosaic.SortNet Idealize.ShloMosaic.Pointwise

/-- A column of a block with 128 columns. -/
def colA (c : Fin 128) : Column S2048x128 0 11 where
  col i := ix2 i c
  size_eq := rfl
  coord _ := rfl
  other i i' b hb := by
    match b with
    | 0 => exact absurd rfl hb
    | 1 => rfl

/-- A column of a block with 64 columns. -/
def colB (d : Fin 64) : Column S2048x64 0 11 where
  col i := ix2 i d
  size_eq := rfl
  coord _ := rfl
  other i i' b hb := by
    match b with
    | 0 => exact absurd rfl hb
    | 1 => rfl

/-- A power of two below 4096 is its own word. -/
theorem pow_word {s : ℕ} (hs : s < 12) : (BitVec.ofNat 32 (2 ^ s)).toNat = 2 ^ s := by
  rw [BitVec.toNat_ofNat]
  exact Nat.mod_eq_of_lt (lt_trans (Nat.pow_lt_pow_right (by decide) hs) (by decide))

/-- The rotation the other way round. -/
theorem back_word {s : ℕ} (hs : s < 11) : (BitVec.ofNat 32 (2048 - 2 ^ s)).toNat = 2 ^ 11 - 2 ^ s := by
  rw [BitVec.toNat_ofNat]
  exact Nat.mod_eq_of_lt (lt_of_le_of_lt (Nat.sub_le _ _) (by decide))

/-- Which rows are clear, over 128 columns. -/
theorem clear128_apply {s : ℕ} (hs : s < 12) (c : Fin 128) (i : Row) :
    clear128 (BitVec.ofNat 32 (2 ^ s)) (ix2 i c) = BitVec.ofBool (decide (i.val &&& 2 ^ s = 0)) := by
  show BitVec.ofBool (IntOp.andi (iota .tc S2048x128 32 [0] iota_S2048x128_d0_w32 ((colA c).col i)) (BitVec.ofNat 32 (2 ^ s)) == 0#32) = _
  rw [(colA c).iota_apply]
  exact congrArg BitVec.ofBool (by
    rw [Bool.eq_iff_iff, beq_iff_eq, decide_eq_true_iff]
    exact and_distance_eq_zero_iff (lt_trans i.isLt (by decide)) _ (pow_word hs))

/-- Which rows are clear, over 64 columns. -/
theorem clear64_apply {s : ℕ} (hs : s < 12) (d : Fin 64) (i : Row) :
    clear64 (BitVec.ofNat 32 (2 ^ s)) (ix2 i d) = BitVec.ofBool (decide (i.val &&& 2 ^ s = 0)) := by
  show BitVec.ofBool (IntOp.andi (iota .tc S2048x64 32 [0] iota_S2048x64_d0_w32 ((colB d).col i)) (BitVec.ofNat 32 (2 ^ s)) == 0#32) = _
  rw [(colB d).iota_apply]
  exact congrArg BitVec.ofBool (by
    rw [Bool.eq_iff_iff, beq_iff_eq, decide_eq_true_iff]
    exact and_distance_eq_zero_iff (lt_trans i.isLt (by decide)) _ (pow_word hs))

/-- The two rotations and their select read the partner's element, over 128 columns. -/
theorem partner128_apply {α : Type} {s : ℕ} (hs : s < 11) (x : S2048x128.Idx → α) (c : Fin 128) (i : Row) :
    partner128 (BitVec.ofNat 32 (2 ^ s)) (BitVec.ofNat 32 (2048 - 2 ^ s)) x (ix2 i c) = x (ix2 (partner 11 s i) c) := by
  show Scalar.select (clear128 _ (ix2 i c)) (dynamicRotate 0 _ none x _ ((colA c).col i)) (dynamicRotate 0 _ none x _ ((colA c).col i)) = _
  rw [clear128_apply (by omega), select_ofBool]
  by_cases h : i.val &&& 2 ^ s = 0
  · rw [decide_eq_true h, if_pos rfl, (colA c).rotate_of_clear hs _ (back_word hs) x _ i h]
    rfl
  · rw [decide_eq_false h, if_neg Bool.false_ne_true, (colA c).rotate_of_set hs _ (pow_word (by omega)) x _ i h]
    rfl

/-- The same over 64 columns. -/
theorem partner64_apply {α : Type} {s : ℕ} (hs : s < 11) (x : S2048x64.Idx → α) (d : Fin 64) (i : Row) :
    partner64 (BitVec.ofNat 32 (2 ^ s)) (BitVec.ofNat 32 (2048 - 2 ^ s)) x (ix2 i d) = x (ix2 (partner 11 s i) d) := by
  show Scalar.select (clear64 _ (ix2 i d)) (dynamicRotate 0 _ none x _ ((colB d).col i)) (dynamicRotate 0 _ none x _ ((colB d).col i)) = _
  rw [clear64_apply (by omega), select_ofBool]
  by_cases h : i.val &&& 2 ^ s = 0
  · rw [decide_eq_true h, if_pos rfl, (colB d).rotate_of_clear hs _ (back_word hs) x _ i h]
    rfl
  · rw [decide_eq_false h, if_neg Bool.false_ne_true, (colB d).rotate_of_set hs _ (pow_word (by omega)) x _ i h]
    rfl

/-- Row numbers compare as their words. -/
theorem slt_rows (a b : Row) : (BitVec.ofNat 32 a.val).slt (BitVec.ofNat 32 b.val) = decide (a < b) := by
  have ha : (BitVec.ofNat 32 a.val).toInt = (a.val : ℤ) := by
    rw [BitVec.toInt_eq_toNat_of_lt] <;> rw [BitVec.toNat_ofNat, Nat.mod_eq_of_lt (lt_trans a.isLt (by decide))]
    exact lt_of_lt_of_le (Nat.mul_lt_mul_of_pos_left a.isLt (by decide)) (by decide)
  have hb : (BitVec.ofNat 32 b.val).toInt = (b.val : ℤ) := by
    rw [BitVec.toInt_eq_toNat_of_lt] <;> rw [BitVec.toNat_ofNat, Nat.mod_eq_of_lt (lt_trans b.isLt (by decide))]
    exact lt_of_lt_of_le (Nat.mul_lt_mul_of_pos_left b.isLt (by decide)) (by decide)
  rw [BitVec.slt_eq_decide, ha, hb]
  exact decide_eq_decide.mpr (by rw [Int.ofNat_lt, Fin.lt_def])

/-- A value and the row it came from, ordered by value and then by row. -/
abbrev Pair := EReal ×ₗ Row

/-- A column of the first sort's state holds the entries `E`. -/
def HoldsA (c : Fin 128) (p : FVec Ideal S2048x128 .f32 × IVec S2048x128 32) (E : Row → Pair) : Prop :=
  ∀ i : Row, (p.1 (ix2 i c) : EReal) = (ofLex (E i)).1 ∧ p.2 (ix2 i c) = BitVec.ofNat 32 (ofLex (E i)).2.val

/-- The comparison of two pairs, by value and then by row. -/
theorem less_pair (a b : Pair) :
    BitVec.ofBool (decide ((ofLex a).1 < (ofLex b).1)) ||| (BitVec.ofBool (decide ((ofLex a).1 = (ofLex b).1)) &&& BitVec.ofBool (decide ((ofLex a).2 < (ofLex b).2)))
      = BitVec.ofBool (decide (a < b)) := by
  have h : a < b ↔ (ofLex a).1 < (ofLex b).1 ∨ (ofLex a).1 = (ofLex b).1 ∧ (ofLex a).2 < (ofLex b).2 := Prod.Lex.lt_iff
  rw [decide_eq_decide.mpr h, Bool.decide_or, Bool.decide_and]
  cases decide ((ofLex a).1 < (ofLex b).1) <;> cases decide ((ofLex a).1 = (ofLex b).1) <;> cases decide ((ofLex a).2 < (ofLex b).2) <;> rfl

/-- The step's choice, at a row whose column holds entries. -/
theorem takeA_apply {l s : ℕ} (hs : s ≤ l) (hl : l < 11) (c : Fin 128) (p : FVec Ideal S2048x128 .f32 × IVec S2048x128 32) (E : Row → Pair)
    (h : HoldsA c p E) (i : Row) :
    takeA (BitVec.ofNat 32 (2 ^ (l + 1))) (BitVec.ofNat 32 (2 ^ s)) (BitVec.ofNat 32 (2048 - 2 ^ s)) p (ix2 i c)
      = BitVec.ofBool ((keep l s i ^^ true) ^^ decide (E i < E (partner 11 s i))) := by
  have h11 : s < 11 := by omega
  show IntOp.xori (IntOp.xori (IntOp.xori (clear128 _ (ix2 i c)) (clear128 _ (ix2 i c))) (BitVec.ofBool true))
    (IntOp.ori (Ideal.cmp .olt (p.1 (ix2 i c)) (partner128 _ _ p.1 (ix2 i c)))
      (IntOp.andi (Ideal.cmp .oeq (p.1 (ix2 i c)) (partner128 _ _ p.1 (ix2 i c)))
        (BitVec.ofBool (BitVec.slt (p.2 (ix2 i c)) (partner128 _ _ p.2 (ix2 i c)))))) = _
  rw [clear128_apply (by omega), clear128_apply (by omega), partner128_apply h11, partner128_apply h11, (h i).2, (h (partner 11 s i)).2, slt_rows,
    ofBool_xor, ofBool_xor]
  have hw := less_pair (E i) (E (partner 11 s i))
  rw [← (h i).1, ← (h (partner 11 s i)).1] at hw
  refine Eq.trans ?_ (ofBool_xor _ _)
  exact congrArg (IntOp.xori _) hw

/-- A step of the first sort is the stage on the entries. -/
theorem stepA_holds (c : Fin 128) (l s : ℕ) (p : FVec Ideal S2048x128 .f32 × IVec S2048x128 32) (E : Row → Pair) (hs : s ≤ l) (hl : l < 11)
    (hE : Function.Injective E) (h : HoldsA c p E) :
    HoldsA c (stepA (BitVec.ofNat 32 (2 ^ (l + 1))) (BitVec.ofNat 32 (2 ^ s)) (BitVec.ofNat 32 (2048 - 2 ^ s)) p)
      (Network.apply (stage 11 s (keep l s)) E) := by
  intro i
  have h11 : s < 11 := by omega
  show (Scalar.select (takeA _ _ _ p (ix2 i c)) (partner128 _ _ p.1 (ix2 i c)) (p.1 (ix2 i c)) : EReal) = _
    ∧ Scalar.select (takeA _ _ _ p (ix2 i c)) (partner128 _ _ p.2 (ix2 i c)) (p.2 (ix2 i c)) = _
  rw [takeA_apply hs hl c p E h, partner128_apply h11, partner128_apply h11, select_ofBool, select_ofBool, stage_pick hs hl E hE]
  split
  · exact h _
  · exact h _

/-- What the first sort leaves in a column: its values through a permutation of the rows, which is the row numbers it leaves; ascending, equal
    values by row. -/
theorem sortA_apply (x : FVec Ideal S2048x128 .f32) (c : Fin 128) :
    ∃ σ : Equiv.Perm Row, Monotone (fun i => (toLex ((x (ix2 (σ i) c) : EReal), σ i) : Pair))
      ∧ ∀ i : Row, (sortA x).1 (ix2 i c) = x (ix2 (σ i) c) ∧ (sortA x).2 (ix2 i c) = BitVec.ofNat 32 (σ i).val := by
  obtain ⟨σ, h1, h2⟩ := sorted_perm (fun i : Row => (toLex ((x (ix2 i c) : EReal), i) : Pair))
  refine ⟨σ, h2, ?_⟩
  have hE : Function.Injective (fun i : Row => (toLex ((x (ix2 i c) : EReal), i) : Pair)) := fun a b e => congrArg (fun q : Pair => (ofLex q).2) e
  have := follow (HoldsA c) (fun l s p => stepA (BitVec.ofNat 32 (2 ^ (l + 1))) (BitVec.ofNat 32 (2 ^ s)) (BitVec.ofNat 32 (2048 - 2 ^ s)) p)
    (fun l s p v hs hl hv h => stepA_holds c l s p v hs hl hv h) (x, iota .tc S2048x128 32 [0] iota_S2048x128_d0_w32) _ hE
    (fun i => ⟨rfl, (colA c).iota_apply .tc iota_S2048x128_d0_w32 i⟩)
  rw [h1] at this
  exact this

/-! ## The second sort -/

/-- A block's left half. -/
theorem left_apply {α : Type} (x : S2048x128.Idx → α) (i : Row) (d : Fin 64) : left x (ix2 i d) = x (ix2 i ⟨d.val, by omega⟩) := by
  refine congrArg x (funext fun b => ?_)
  match b with
  | 0 => exact Fin.ext (Nat.zero_add _)
  | 1 => exact Fin.ext (Nat.zero_add _)

/-- A block's right half. -/
theorem right_apply {α : Type} (x : S2048x128.Idx → α) (i : Row) (d : Fin 64) : right x (ix2 i d) = x (ix2 i ⟨64 + d.val, by omega⟩) := by
  refine congrArg x (funext fun b => ?_)
  match b with
  | 0 => exact Fin.ext (Nat.zero_add _)
  | 1 => rfl

/-- Two halves side by side: a column of the left. -/
theorem beside_left {α : Type} (x y : S2048x64.Idx → α) (i : Row) (d : Fin 64) : beside x y (ix2 i ⟨d.val, by omega⟩) = x (ix2 i d) := by
  unfold beside
  refine concatenate_pair_apply_left (t := S2048x128) 1 x y concatenates_S2048x64_S2048x64_S2048x128_d1 _ rfl (ix2 i d) fun b => ?_
  match b with
  | 0 => rfl
  | 1 => rfl

/-- Two halves side by side: a column of the right. -/
theorem beside_right {α : Type} (x y : S2048x64.Idx → α) (i : Row) (d : Fin 64) : beside x y (ix2 i ⟨64 + d.val, by omega⟩) = y (ix2 i d) := by
  unfold beside
  refine concatenate_pair_apply_right (t := S2048x128) 1 x y concatenates_S2048x64_S2048x64_S2048x128_d1 _ rfl rfl (ix2 i d) (fun b hb => ?_) ?_
  · match b with
    | 0 => rfl
    | 1 => exact absurd rfl hb
  · exact Nat.add_comm _ _

/-- A column of the second sort's state holds the entries `E`, each with its column `kk` and its value `vv`. -/
def HoldsB (d : Fin 64) (kk : Row → BitVec 32) (vv : Row → EReal) (p : IVec S2048x128 32 × FVec Ideal S2048x64 .f32) (E : Row → Row) : Prop :=
  ∀ i : Row, p.1 (ix2 i ⟨d.val, by omega⟩) = BitVec.ofNat 32 (E i).val ∧ p.1 (ix2 i ⟨64 + d.val, by omega⟩) = kk (E i) ∧ p.2 (ix2 i d) = vv (E i)

/-- The step's choice, at a row whose column holds entries. -/
theorem takeB_apply {l s : ℕ} (hs : s ≤ l) (hl : l < 11) (d : Fin 64) (ii : IVec S2048x128 32) (E : Row → Row)
    (h : ∀ i : Row, ii (ix2 i ⟨d.val, by omega⟩) = BitVec.ofNat 32 (E i).val) (i : Row) :
    takeB (BitVec.ofNat 32 (2 ^ (l + 1))) (BitVec.ofNat 32 (2 ^ s)) (BitVec.ofNat 32 (2048 - 2 ^ s)) ii (ix2 i d)
      = BitVec.ofBool ((keep l s i ^^ true) ^^ decide (E i < E (partner 11 s i))) := by
  have h11 : s < 11 := by omega
  show IntOp.xori (IntOp.xori (IntOp.xori (clear64 _ (ix2 i d)) (clear64 _ (ix2 i d))) (BitVec.ofBool true))
    (BitVec.ofBool (BitVec.slt (left ii (ix2 i d)) (left (partner128 _ _ ii) (ix2 i d)))) = _
  rw [clear64_apply (by omega), clear64_apply (by omega), left_apply, left_apply, partner128_apply h11, h, h, slt_rows, ofBool_xor, ofBool_xor]
  exact ofBool_xor _ _

/-- A step of the second sort is the stage on the entries. -/
theorem stepB_holds (d : Fin 64) (kk : Row → BitVec 32) (vv : Row → EReal) (l s : ℕ) (p : IVec S2048x128 32 × FVec Ideal S2048x64 .f32) (E : Row → Row)
    (hs : s ≤ l) (hl : l < 11) (hE : Function.Injective E) (h : HoldsB d kk vv p E) :
    HoldsB d kk vv (stepB (BitVec.ofNat 32 (2 ^ (l + 1))) (BitVec.ofNat 32 (2 ^ s)) (BitVec.ofNat 32 (2048 - 2 ^ s)) p)
      (Network.apply (stage 11 s (keep l s)) E) := by
  intro i
  have h11 : s < 11 := by omega
  show beside _ _ (ix2 i ⟨d.val, _⟩) = _ ∧ beside _ _ (ix2 i ⟨64 + d.val, _⟩) = _
    ∧ (Scalar.select (takeB _ _ _ p.1 (ix2 i d)) (partner64 _ _ p.2 (ix2 i d)) (p.2 (ix2 i d)) : EReal) = _
  rw [beside_left, beside_right]
  show Scalar.select (takeB _ _ _ p.1 (ix2 i d)) (left (partner128 _ _ p.1) (ix2 i d)) (left p.1 (ix2 i d)) = _
    ∧ Scalar.select (takeB _ _ _ p.1 (ix2 i d)) (right (partner128 _ _ p.1) (ix2 i d)) (right p.1 (ix2 i d)) = _
    ∧ (Scalar.select (takeB _ _ _ p.1 (ix2 i d)) (partner64 _ _ p.2 (ix2 i d)) (p.2 (ix2 i d)) : EReal) = _
  rw [takeB_apply hs hl d p.1 E (fun i => (h i).1), left_apply, left_apply, right_apply, right_apply, partner128_apply h11, partner128_apply h11,
    partner64_apply h11, select_ofBool, select_ofBool, select_ofBool, stage_pick hs hl E hE]
  split
  · exact h _
  · exact h _

/-- What the second sort leaves in a column whose keys are a permutation of the rows: every key in its own row, with the column and the value
    it had. -/
theorem sortB_apply (ii : IVec S2048x128 32) (v : FVec Ideal S2048x64 .f32) (d : Fin 64) (σ : Equiv.Perm Row)
    (h : ∀ i : Row, ii (ix2 i ⟨d.val, by omega⟩) = BitVec.ofNat 32 (σ i).val) (i : Row) :
    (sortB ii v).1 (ix2 i ⟨64 + d.val, by omega⟩) = ii (ix2 (σ.symm i) ⟨64 + d.val, by omega⟩) ∧ (sortB ii v).2 (ix2 i d) = v (ix2 (σ.symm i) d) := by
  obtain ⟨τ, h1, h2⟩ := sorted_perm (fun i : Row => σ i)
  have := follow (HoldsB d (fun r => ii (ix2 (σ.symm r) ⟨64 + d.val, by omega⟩)) (fun r => v (ix2 (σ.symm r) d)))
    (fun l s p => stepB (BitVec.ofNat 32 (2 ^ (l + 1))) (BitVec.ofNat 32 (2 ^ s)) (BitVec.ofNat 32 (2048 - 2 ^ s)) p)
    (fun l s p v hs hl hv h => stepB_holds d _ _ l s p v hs hl hv h) (ii, v) (fun i : Row => σ i) σ.injective
    (fun i => ⟨h i, by dsimp only; rw [Equiv.symm_apply_apply], by dsimp only; rw [Equiv.symm_apply_apply]⟩)
  rw [h1, show ((fun i : Row => σ i) ∘ ⇑τ) = id from funext fun i => perm_mono (τ.trans σ) h2 i] at this
  exact ⟨(this i).2.1, (this i).2.2⟩

end Cert.Proof.SortVal

end
-- ==== Proof.KerVal.lean ====
/-
  What the kernel leaves at a position, over the extended reals: the host operations around the two calls move every
  value to a place of its own, the sorts give every feature's matching column, and the masked sum adds the kernel's
  values of the features that match.
-/
module

public import proofs.«01_k».proof.Proof.Host
public import proofs.«01_k».proof.Proof.SortVal
public import Idealize.ShloMosaic.Lib.IdealHost
public import Idealize.ShloMosaic.Lib.BitcastConvert
public import Idealize.ShloMosaic.Lib.Pipeline.Value

@[expose] public section

noncomputable section

namespace Cert.Proof.KerVal

open Cert.KernelIdeal Cert.KernelIdeal.Gen Cert.Proof.Rank Cert.Proof.ScVal Cert.Proof.TcVal Cert.Proof.TcOut Cert.Proof.Host Cert.Proof.SortVal
open Idealize.ShloMosaic Idealize.ShloMosaic.Pointwise

/-- A reshape read at an index, by a position with the same number. -/
theorem reshape_at {s t : Shape} {α : Type} (x : s.Idx → α) (h : s.ShapeCasts t) (j : t.Idx) (i : s.Idx)
    (e : (s.rowMajor i : ℕ) = (t.rowMajor j : ℕ)) : shapeCast t x h j = x i :=
  congrArg x (Shape.reshapeEquiv_eq_of_rowMajor h e)

/-! ## The moves -/

/-- A column of a head, among all the columns. -/
def column (h : Fin 12) (c : Fin 128) : Fin 1536 := ⟨h.val * 128 + c.val, by omega⟩

/-- The tiles' order of a block's halves, read where feature `d` of row `i` of head `h` lies. -/
theorem tiles_at {α : Type} (y : S2048x12x64.Idx → α) (h : Fin 12) (i : Fin 2048) (d : Fin 64) (n : ℕ)
    (hn : n = (h.val * 16 + i.val / 128) * 8192 + d.val * 128 + i.val % 128) :
    shapeCast S1572864 (transpose S12x16x64x128 [2, 0, 3, 1] (shapeCast S16x128x12x64 (shapeCast S2048x768 y
      shapeCasts_S2048x12x64_S2048x768) shapeCasts_S2048x768_S16x128x12x64) transposes_S16x128x12x64_S12x16x64x128_2_0_3_1)
      shapeCasts_S12x16x64x128_S1572864 (ixm 1572864 (by decide) n) = y (ix3 i h d) := by
  have h1 := h.isLt
  have h2 := i.isLt
  have h3 := d.isLt
  refine (reshape_at _ _ _ (ix4 h ⟨i.val / 128, by omega⟩ d ⟨i.val % 128, by omega⟩) ?_).trans ?_
  · rw [rowMajor_val4 _ 131072 8192 128 rfl rfl rfl, rowMajor_val1, ixm_val _ (by omega)]
    show h.val * 131072 + i.val / 128 * 8192 + d.val * 128 + i.val % 128 = n
    omega
  refine (Idealize.ShloMosaic.transpose_apply _ _ _ _ (ix4 ⟨i.val / 128, by omega⟩ ⟨i.val % 128, by omega⟩ h d) fun b => ?_).trans ?_
  · match b with
    | 0 => rfl
    | 1 => rfl
    | 2 => rfl
    | 3 => rfl
  refine (reshape_at _ _ _ (ix2 i ⟨h.val * 64 + d.val, by omega⟩) ?_).trans ?_
  · rw [rowMajor_val4 _ 98304 768 64 rfl rfl rfl, rowMajor_val2 _ 768 rfl]
    show i.val * 768 + (h.val * 64 + d.val) = i.val / 128 * 98304 + i.val % 128 * 768 + h.val * 64 + d.val
    omega
  refine reshape_at _ _ _ (ix3 i h d) ?_
  rw [rowMajor_val3 _ 768 64 rfl rfl, rowMajor_val2 _ 768 rfl]
  show i.val * 768 + h.val * 64 + d.val = i.val * 768 + (h.val * 64 + d.val)
  omega

/-- A call's columns, head by head. -/
theorem heads_at {α : Type} (x : S2048x1536.Idx → α) (i : Fin 2048) (h : Fin 12) (c : Fin 128) :
    shapeCast S2048x12x128 x shapeCasts_S2048x1536_S2048x12x128 (ix3 i h c) = x (ix2 i (column h c)) := by
  refine reshape_at _ _ _ _ ?_
  rw [rowMajor_val3 _ 1536 128 rfl rfl, rowMajor_val2 _ 1536 rfl]
  show i.val * 1536 + (h.val * 128 + c.val) = i.val * 1536 + h.val * 128 + c.val
  omega

/-- The SparseCore call's order of the left halves. -/
theorem flatL_at {e : EltTy} (x : Vec Ideal S2048x1536 e) (h : Fin 12) (i : Fin 2048) (d : Fin 64) (n : ℕ)
    (hn : n = (h.val * 16 + i.val / 128) * 8192 + d.val * 128 + i.val % 128) :
    atCol (flatL x) n = x (ix2 i (column h ⟨d.val, by omega⟩)) := by
  refine (tiles_at _ h i d n hn).trans ?_
  refine (Idealize.ShloMosaic.extractStridedSlice_apply _ _ _ _ (ix3 i h ⟨d.val, by omega⟩) fun a => ?_).trans (heads_at _ _ _ _)
  match a with
  | 0 => exact (Nat.zero_add _).symm
  | 1 => exact (Nat.zero_add _).symm
  | 2 => exact (Nat.zero_add _).symm

/-- The SparseCore call's order of the right halves. -/
theorem flatR_at {e : EltTy} (x : Vec Ideal S2048x1536 e) (h : Fin 12) (i : Fin 2048) (d : Fin 64) (n : ℕ)
    (hn : n = (h.val * 16 + i.val / 128) * 8192 + d.val * 128 + i.val % 128) :
    atCol (flatR x) n = x (ix2 i (column h ⟨64 + d.val, by omega⟩)) := by
  refine (tiles_at _ h i d n hn).trans ?_
  refine (Idealize.ShloMosaic.extractStridedSlice_apply _ _ _ _ (ix3 i h ⟨64 + d.val, by omega⟩) fun a => ?_).trans (heads_at _ _ _ _)
  match a with
  | 0 => exact (Nat.zero_add _).symm
  | 1 => exact (Nat.zero_add _).symm
  | 2 => rfl

/-- An argument with its first axis dropped. -/
abbrev heads (q : FVec Ideal S1x12x2048x64 .f32) : FVec Ideal S12x2048x64 .f32 := shapeCast S12x2048x64 q shapeCasts_S1x12x2048x64_S12x2048x64

/-- A head's block of the TensorCore call's input, before its reshape. -/
theorem headIn_eq (q k : FVec Ideal S1x12x2048x64 .f32) (h : Fin 12) (i : Fin 2048) (c : Fin 128) :
    headIn (F := Ideal) (inX q k) h (ix2 i c) = concatenate S2048x12x128 2
    [⟨S2048x12x64, transpose S2048x12x64 [1, 0, 2] (heads q) transposes_S12x2048x64_S2048x12x64_1_0_2⟩,
     ⟨S2048x12x64, transpose S2048x12x64 [1, 0, 2] (heads k) transposes_S12x2048x64_S2048x12x64_1_0_2⟩]
    concatenates_S2048x12x64_S2048x12x64_S2048x12x128_d2 (ix3 i h c) := by
  refine reshape_at _ _ _ (ix3 i h c) ?_
  rw [rowMajor_val3 _ 1536 128 rfl rfl, rowMajor_val2 _ 1536 rfl]
  show i.val * 1536 + h.val * 128 + c.val = i.val * 1536 + (128 * h.val + c.val)
  omega

/-- An argument's rows first, read at an index. -/
theorem rows_first (x : FVec Ideal S12x2048x64 .f32) (h : Fin 12) (i : Fin 2048) (d : Fin 64) :
    transpose S2048x12x64 [1, 0, 2] x transposes_S12x2048x64_S2048x12x64_1_0_2 (ix3 i h d) = x (ix3 h i d) :=
  Idealize.ShloMosaic.transpose_apply _ _ _ _ _ fun b => match b with
    | 0 => rfl
    | 1 => rfl
    | 2 => rfl

/-- The first half of a head's columns is the first argument's. -/
theorem headIn_left (q k : FVec Ideal S1x12x2048x64 .f32) (h : Fin 12) (i : Fin 2048) (d : Fin 64) :
    headIn (F := Ideal) (inX q k) h (ix2 i ⟨d.val, by omega⟩) = heads q (ix3 h i d) := by
  rw [headIn_eq]
  refine (concatenate_pair_apply_left (t := S2048x12x128) 2 _ _ concatenates_S2048x12x64_S2048x12x64_S2048x12x128_d2 _ rfl (ix3 i h d) fun b => ?_).trans (rows_first _ _ _ _)
  match b with
  | 0 => rfl
  | 1 => rfl
  | 2 => rfl

/-- The second half of a head's columns is the second argument's. -/
theorem headIn_right (q k : FVec Ideal S1x12x2048x64 .f32) (h : Fin 12) (i : Fin 2048) (d : Fin 64) :
    headIn (F := Ideal) (inX q k) h (ix2 i ⟨64 + d.val, by omega⟩) = heads k (ix3 h i d) := by
  rw [headIn_eq]
  refine (concatenate_pair_apply_right (t := S2048x12x128) 2 _ _ concatenates_S2048x12x64_S2048x12x64_S2048x12x128_d2 _ rfl rfl (ix3 i h d) (fun b hb => ?_) ?_).trans (rows_first _ _ _ _)
  · match b with
    | 0 => rfl
    | 1 => rfl
    | 2 => exact absurd rfl hb
  · exact Nat.add_comm _ _

/-! ## The mask -/

/-- A byte of the mask's words is zero exactly where the mask is. -/
theorem keep_at (b : IVec S1x12x2048x2048 1) (h : Fin 12) (i j : Fin 2048) (n : ℕ) (hn : n = h.val * 4194304 + i.val * 2048 + j.val) :
    Cert.Proof.ScVal.keep (atMsk (maskW (F := Ideal) b) (n / 4)) (n % 4)
      ↔ shapeCast S12x2048x2048 b shapeCasts_S1x12x2048x2048_S12x2048x2048 (ix3 h i j) = 0#1 := by
  have h1 := h.isLt
  have h2 := i.isLt
  have h3 := j.isLt
  have key : ∀ t < 8, (atMsk (maskW (F := Ideal) b) (n / 4)).getLsbD (n % 4 * 8 + t)
      = ((shapeCast S12x2048x2048 b shapeCasts_S1x12x2048x2048_S12x2048x2048 (ix3 h i j)).setWidth 8).getLsbD t := fun t ht => by
    refine (Host.bitcastConvertWiden_getLsbD _ _ _ _ _ _ (by omega)).trans ?_
    have e1 : (n % 4 * 8 + t) % 8 = t := by omega
    rw [e1]
    refine congrArg (fun w : BitVec 8 => w.getLsbD t) ?_
    refine (reshape_at _ _ _ (ix3 h i j) ?_).trans rfl
    rw [rowMajor_val3 _ 4194304 2048 rfl rfl, rowMajor_val2 _ 4 rfl]
    show h.val * 4194304 + i.val * 2048 + j.val = (n / 4) % 12582912 * 4 + (n % 4 * 8 + t) / 8
    omega
  generalize shapeCast S12x2048x2048 b shapeCasts_S1x12x2048x2048_S12x2048x2048 (ix3 h i j) = w at key ⊢
  generalize atMsk (maskW (F := Ideal) b) (n / 4) = v at key ⊢
  have e : (v >>> (n % 4 * 8)) &&& 255#32 = (w.setWidth 8).setWidth 32 := by
    apply BitVec.eq_of_getLsbD_eq
    intro t ht
    rw [BitVec.getLsbD_and, BitVec.getLsbD_ushiftRight, BitVec.getLsbD_setWidth]
    by_cases h8 : t < 8
    · rw [key t h8]
      have : (255#32).getLsbD t = true := by interval_cases t <;> rfl
      rw [this, Bool.and_true, decide_eq_true ht, Bool.true_and]
    · have : (255#32).getLsbD t = false := by interval_cases t <;> first | rfl | omega
      rw [this, Bool.and_false, BitVec.getLsbD_of_ge _ _ (by omega), Bool.and_false]
  unfold Cert.Proof.ScVal.keep
  rw [e]
  exact (by decide : ∀ w : BitVec 1, (w.setWidth 8).setWidth 32 = 0#32 ↔ w = 0#1) w

/-! ## The block's two results -/

/-- The kernel's value for a squared difference. -/
def weight (y : EReal) : EReal := Ideal.exp ((0 - y) * y) * FloatOps.ofBits (F := Ideal) .f32 0x3C800000#32

/-- The values made from the sorted block. -/
theorem values_at (x : FVec Ideal S2048x128 .f32) (i : Row) (d : Fin 64) :
    (k0_pay136 (F := Ideal) x (ix2 i d) : EReal) = weight ((x (ix2 i ⟨d.val, by omega⟩) : EReal) - x (ix2 i ⟨64 + d.val, by omega⟩)) := by
  have e : (k0_pay136 (F := Ideal) x (ix2 i d) : EReal)
      = Ideal.exp (((FloatOps.ofBits (F := Ideal) .f32 0x00000000#32 : EReal) - ((left x (ix2 i d) : EReal) - right x (ix2 i d))) * ((left x (ix2 i d) : EReal) - right x (ix2 i d)))
        * FloatOps.ofBits (F := Ideal) .f32 0x3C800000#32 := rfl
  have hz : (FloatOps.ofBits (F := Ideal) .f32 0x00000000#32 : EReal) = 0 := Ideal.ofBits_zero_f32
  rw [e, hz, left_apply, right_apply]
  rfl

/-- The reshape of a block to its own shape. -/
theorem pay1_eq (x : FVec Ideal S2048x128 .f32) : k0_pay1 (F := Ideal) x = x :=
  funext fun j => reshape_at _ _ _ _ rfl

/-- What both sorts of a block leave for a feature: with the two columns' stable orders, the matching column of every row, and its value. -/
theorem sorted_at (x : FVec Ideal S2048x128 .f32) (d : Fin 64) : ∃ σ τ : Equiv.Perm Row,
    Monotone (fun i => (toLex ((x (ix2 (σ i) ⟨d.val, by omega⟩) : EReal), σ i) : Pair))
    ∧ Monotone (fun i => (toLex ((x (ix2 (τ i) ⟨64 + d.val, by omega⟩) : EReal), τ i) : Pair))
    ∧ ∀ i : Row, (sorted (F := Ideal) x).1 (ix2 i ⟨64 + d.val, by omega⟩) = BitVec.ofNat 32 (τ (σ.symm i)).val
      ∧ ((sorted (F := Ideal) x).2 (ix2 i d) : EReal) = weight ((x (ix2 i ⟨d.val, by omega⟩) : EReal) - x (ix2 (τ (σ.symm i)) ⟨64 + d.val, by omega⟩)) := by
  obtain ⟨σ, h1, h2⟩ := sortA_apply x ⟨d.val, by omega⟩
  obtain ⟨τ, h3, h4⟩ := sortA_apply x ⟨64 + d.val, by omega⟩
  refine ⟨σ, τ, h1, h3, fun i => ?_⟩
  have hB := sortB_apply (sortA x).2 (k0_pay136 (F := Ideal) (sortA x).1) d σ (fun i => (h2 i).2) i
  unfold sorted
  rw [pay1_eq]
  refine ⟨hB.1.trans (h4 _).2, hB.2.trans ((values_at _ _ _).trans ?_)⟩
  rw [(h2 _).1, (h4 _).1, Equiv.apply_symm_apply]

/-- A column's head. -/
theorem headOf_column (i : Fin 2048) (h : Fin 12) (c : Fin 128) : headOf (ix2 i (column h c)) = h :=
  Fin.ext (by show (h.val * 128 + c.val) / 128 = h.val; omega)

/-- A column's place in its head. -/
theorem within_column (i : Fin 2048) (h : Fin 12) (c : Fin 128) : within (ix2 i (column h c)) = ix2 i c :=
  congrArg (ix2 i) (Fin.ext (by show (h.val * 128 + c.val) % 128 = c.val; omega))

/-- The integer result at a head's left half. -/
theorem outCol_at (x : FVec Ideal S2048x1536 .f32) (i : Fin 2048) (h : Fin 12) (d : Fin 64) :
    outCol (F := Ideal) x (ix2 i (column h ⟨d.val, by omega⟩)) = (sorted (F := Ideal) (headIn (F := Ideal) x h)).1 (ix2 i ⟨64 + d.val, by omega⟩) := by
  unfold outCol
  rw [headOf_column, within_column]
  exact (beside_left (right _) (left _) i d).trans (right_apply _ i d)

/-- The float result at a head's right half. -/
theorem outVal_at (x : FVec Ideal S2048x1536 .f32) (i : Fin 2048) (h : Fin 12) (d : Fin 64) :
    outVal (F := Ideal) x (ix2 i (column h ⟨64 + d.val, by omega⟩)) = (sorted (F := Ideal) (headIn (F := Ideal) x h)).2 (ix2 i d) := by
  unfold outVal
  rw [headOf_column, within_column]
  exact beside_right _ _ i d

/-! ## The masked sum -/

open scoped Classical in
/-- The running sum is a sum. -/
theorem accAt_sum (P : ℕ → Prop) (v : ℕ → EReal) (n : ℕ) :
    (accAt (F := Ideal) P v n : EReal) = ∑ d ∈ Finset.univ.filter (fun d : Fin n => P d.val), v d.val := by
  have h : ∀ m, (accAt (F := Ideal) P v m : EReal) = ∑ d ∈ (Finset.range m).filter P, v d := fun m => by
    induction m with
    | zero => exact Ideal.ofBits_zero_f32
    | succ m ih =>
      rw [Finset.range_add_one, Finset.filter_insert]
      show (if P m then (Elt.idxAdd (F := Ideal) .f32 (accAt (F := Ideal) P v m) (v m) : EReal) else accAt (F := Ideal) P v m) = _
      by_cases hp : P m
      · rw [if_pos hp, if_pos hp, Finset.sum_insert (fun hm => Finset.notMem_range_self (Finset.mem_filter.mp hm).1), add_comm, ← ih]
        rfl
      · rw [if_neg hp, if_neg hp, ih]
  rw [h, Finset.sum_filter, Finset.sum_range, Finset.sum_filter]

open scoped Classical in
/-- The masked sum at a position. -/
theorem scOut_at (col : IVec S1572864 32) (val : FVec Ideal S1572864 .f32) (msk : IVec S12582912 32) (J : Fin 50331648) :
    (scOut (F := Ideal) col val msk (ix1 J) : EReal) = ∑ d ∈ Finset.univ.filter (fun d : Fin 64 =>
        (atCol col (J.val / 262144 * 8192 + d.val * 128 + J.val / 2048 % 128)).toNat = J.val % 2048 ∧ Cert.Proof.ScVal.keep (atMsk msk (J.val / 4)) (J.val % 4)),
      (atCol val (J.val / 262144 * 8192 + d.val * 128 + J.val / 2048 % 128) : EReal) := by
  have e : ((ix1 J : S50331648.Idx) 0).val = J.val := rfl
  unfold scOut
  rw [accAt_sum]
  simp only [e]

open scoped Classical in
/-- The kernel's result at a position, where `σ` and `τ` order the two arguments' columns. -/
theorem result_at (q k : FVec Ideal S1x12x2048x64 .f32) (b : IVec S1x12x2048x2048 1) (τ' : Fin 12 → Fin 64 → Fin 2048 → Fin 2048)
    (hcol : ∀ h d i, (sorted (F := Ideal) (headIn (F := Ideal) (inX q k) h)).1 (ix2 i ⟨64 + d.val, by omega⟩) = BitVec.ofNat 32 (τ' h d i).val)
    (hval : ∀ h d i, ((sorted (F := Ideal) (headIn (F := Ideal) (inX q k) h)).2 (ix2 i d) : EReal)
      = weight ((heads q (ix3 h i d) : EReal) - heads k (ix3 h (τ' h d i) d)))
    (z : Fin 1) (h : Fin 12) (i j : Fin 2048) :
    (result (F := Ideal) q k b (ix4 z h i j) : EReal) = if shapeCast S12x2048x2048 b shapeCasts_S1x12x2048x2048_S12x2048x2048 (ix3 h i j) = 0#1
      then ∑ d ∈ Finset.univ.filter (fun d => τ' h d i = j), weight ((heads q (ix3 h i d) : EReal) - heads k (ix3 h j d)) else 0 := by
  have h1 := h.isLt
  have h2 := i.isLt
  have h3 := j.isLt
  obtain ⟨J, hJ⟩ : ∃ J : Fin 50331648, J.val = h.val * 4194304 + i.val * 2048 + j.val := ⟨⟨_, by omega⟩, rfl⟩
  refine (reshape_at _ _ _ (ix1 J) ?_).trans ?_
  · rw [rowMajor_val4 _ 50331648 4194304 2048 rfl rfl rfl, rowMajor_val1]
    have hz : z.val = 0 := by omega
    show J.val = z.val * 50331648 + h.val * 4194304 + i.val * 2048 + j.val
    rw [hz, zero_mul, zero_add, hJ]
  refine (scOut_at _ _ _ J).trans ?_
  have hn : ∀ d : Fin 64, J.val / 262144 * 8192 + d.val * 128 + J.val / 2048 % 128 = (h.val * 16 + i.val / 128) * 8192 + d.val * 128 + i.val % 128 := fun d => by omega
  have hc : ∀ d : Fin 64, atCol (flatL (F := Ideal) (outCol (F := Ideal) (inX q k))) (J.val / 262144 * 8192 + d.val * 128 + J.val / 2048 % 128) = BitVec.ofNat 32 (τ' h d i).val := fun d =>
    (flatL_at _ h i d _ (hn d)).trans ((outCol_at _ i h d).trans (hcol h d i))
  have hv : ∀ d : Fin 64, (atCol (flatR (F := Ideal) (outVal (F := Ideal) (inX q k))) (J.val / 262144 * 8192 + d.val * 128 + J.val / 2048 % 128) : EReal)
      = weight ((heads q (ix3 h i d) : EReal) - heads k (ix3 h (τ' h d i) d)) := fun d =>
    (flatR_at _ h i d _ (hn d)).trans ((outVal_at _ i h d).trans (hval h d i))
  have hj : J.val % 2048 = j.val := by omega
  have ht : ∀ d : Fin 64, (BitVec.ofNat 32 (τ' h d i).val).toNat = (τ' h d i).val := fun d => by
    rw [BitVec.toNat_ofNat, Nat.mod_eq_of_lt (lt_trans (τ' h d i).isLt (by decide))]
  have hP : ∀ d : Fin 64, ((atCol (flatL (F := Ideal) (outCol (F := Ideal) (inX q k))) (J.val / 262144 * 8192 + d.val * 128 + J.val / 2048 % 128)).toNat = J.val % 2048
      ∧ Cert.Proof.ScVal.keep (atMsk (maskW (F := Ideal) b) (J.val / 4)) (J.val % 4))
      ↔ (τ' h d i = j ∧ shapeCast S12x2048x2048 b shapeCasts_S1x12x2048x2048_S12x2048x2048 (ix3 h i j) = 0#1) := fun d => by
    rw [hc d, ht, hj, keep_at b h i j J.val hJ, Fin.ext_iff]
  refine (Finset.sum_congr (Finset.filter_congr fun d _ => hP d) fun d _ => hv d).trans ?_
  split
  · rename_i hb
    refine Finset.sum_congr (Finset.filter_congr fun d _ => and_iff_left hb) fun d hd => ?_
    rw [(Finset.mem_filter.mp hd).2]
  · rename_i hb
    refine Finset.sum_eq_zero fun d hd => absurd (Finset.mem_filter.mp hd).2.2 hb

end Cert.Proof.KerVal

end
-- ==== Proof.RefVal.lean ====
/-
  What the reference leaves at a position, over the extended reals, where every column's stable order is given as a
  permutation of the rows.
-/
module

public import proofs.«01_k».proof.Proof.Gen.ReferenceIdeal
public import proofs.«01_k».proof.Proof.Gen.ReferenceIdeal.Run
public import proofs.«01_k».proof.Proof.Rank
public import Idealize.ShloMosaic.PureOps.Ideal
public import Idealize.ShloMosaic.Lib.IdealHost
public import Idealize.ShloMosaic.Lib.ReduceAll
public import Idealize.ShloMosaic.Lib.Pointwise
public import Idealize.ShloMosaic.Lib.ValueIdxCore

@[expose] public section

noncomputable section

namespace Cert.Proof.RefVal

open Cert.ReferenceIdeal Cert.ReferenceIdeal.Gen Cert.Proof.Rank
open Idealize.ShloMosaic Idealize.ShloMosaic.Pointwise Idealize.ShloMosaic.Host

/-- A reshape read at an index, by a position with the same number. -/
theorem cast_at {s t : Shape} {α : Type} (x : s.Idx → α) (h : s.ShapeCasts t) (j : t.Idx) (i : s.Idx)
    (e : (s.rowMajor i : ℕ) = (t.rowMajor j : ℕ)) : shapeCast t x h j = x i :=
  congrArg x (Shape.reshapeEquiv_eq_of_rowMajor h e)

/-- The reference's comparator asks whether the left value is less. -/
theorem comparator_eq (l r : EReal × BitVec 32) : (comparator_f32_i32_d1 (F := Ideal) l r == 1#1) = decide (l.1 < r.1) := by
  have h0 : ∀ x : EReal, Scalar.select (Ideal.cmp .oeq x 0) (0 : EReal) x = x := fun x => by
    unfold Ideal.cmp
    by_cases h : x = 0
    · rw [h]; simp [Scalar.select]
    · simp [h, Scalar.select]
  have h1 : ∀ x y z : EReal, Scalar.select (Ideal.cmp .une x x) y z = z := fun x y z => by
    simp [Ideal.cmp, Scalar.select]
  have hz : (FloatOps.ofBits (F := Ideal) .f32 0x00000000#32 : EReal) = 0 := Ideal.ofBits_zero_f32
  have key : comparator_f32_i32_d1 (F := Ideal) l r = Ideal.cmp .olt l.1 r.1 := by
    show Ideal.cmp .olt (Scalar.select (Ideal.cmp .une l.1 l.1) _ (Scalar.select (Ideal.cmp .oeq l.1 (FloatOps.ofBits (F := Ideal) .f32 0x00000000#32)) (FloatOps.ofBits (F := Ideal) .f32 0x00000000#32) l.1))
      (Scalar.select (Ideal.cmp .une r.1 r.1) _ (Scalar.select (Ideal.cmp .oeq r.1 (FloatOps.ofBits (F := Ideal) .f32 0x00000000#32)) (FloatOps.ofBits (F := Ideal) .f32 0x00000000#32) r.1)) = _
    rw [hz, h1, h1, h0, h0]
  rw [key]
  unfold Ideal.cmp
  by_cases h : l.1 < r.1 <;> simp [h]

/-! ## One operand: its sort and the values read along it -/

/-- The rows in each column's stable order. -/
def order (x : FVec Ideal S12x2048x64 .f32) : IVec S12x2048x64 32 :=
  (Host.sort2 S12x2048x64 1 comparator_f32_i32_d1 x (iotaInDim S12x2048x64 32 1)).2

/-- The same as indices into the rows. -/
def rowsOf (x : FVec Ideal S12x2048x64 .f32) : IVec S12x2048x64x1 32 :=
  shapeCast S12x2048x64x1 (select (cmpi .slt (order x) (broadcastInDim S12x2048x64 ![] bcast_S_S12x2048x64 (constantI S_ 32 0#32)))
    (addi (order x) (broadcastInDim S12x2048x64 ![] bcast_S_S12x2048x64 (constantI S_ 32 2048#32))) (order x)) shapeCasts_S12x2048x64_S12x2048x64x1

/-- The values along each column's stable order. -/
def taken (x : FVec Ideal S12x2048x64 .f32) : FVec Ideal S12x2048x64 .f32 :=
  select (Host.reduce IntOp.andi (andi (cmpi .sge (rowsOf x) (broadcastInDim S12x2048x64x1 ![] bcast_S_S12x2048x64x1 (constantI S_ 32 0#32)))
      (cmpi .sle (rowsOf x) (broadcastInDim S12x2048x64x1 ![0, 1, 2, 3] bcast_S1x1x1x1_S12x2048x64x1_0_1_2_3 (broadcastInDim S1x1x1x1 ![3] bcast_S1_S1x1x1x1_3 (constantI S1 32 2047#32)))))
      (constantI S_ 1 1#1) reducesTo_S12x2048x64x1_S12x2048x64_d3 h_S_)
    (Host.gather gather_S12x2048x64_S12x2048x64x1_S12x2048x64_n_1_02_02_1_3_111 x (rowsOf x))
    (broadcastInDim S12x2048x64 ![] bcast_S_S12x2048x64 (constant S_ .f32 0x7FC00000#32))

/-- A column's stable order. -/
def Ordered (x : FVec Ideal S12x2048x64 .f32) (σ : Fin 12 → Fin 64 → Equiv.Perm (Fin 2048)) : Prop :=
  ∀ h d, Monotone fun r => key (fun i : Fin 2048 => (x (ix3 h i d) : EReal)) (σ h d r)

/-- A position below half the words is its own index. -/
theorem wrap_nat (n : ℕ) (hn : n < 2 ^ 31) (w : BitVec 32) :
    Scalar.select (IntOp.cmpi .slt (BitVec.ofNat 32 n) 0#32) w (BitVec.ofNat 32 n) = BitVec.ofNat 32 n := by
  have h : BitVec.slt (BitVec.ofNat 32 n) 0#32 = false := by
    rw [BitVec.slt_eq_decide, decide_eq_false_iff_not, BitVec.toInt_eq_toNat_of_lt (by rw [BitVec.toNat_ofNat, Nat.mod_eq_of_lt (by omega)]; omega)]
    exact not_lt.mpr (Int.natCast_nonneg _)
  show Scalar.select (BitVec.ofBool (BitVec.slt (BitVec.ofNat 32 n) 0#32)) w _ = _
  rw [h]
  rfl

/-- A word below half the words, as an integer. -/
theorem word_toInt (n : ℕ) (hn : n < 2 ^ 31) : (BitVec.ofNat 32 n).toInt = (n : ℤ) := by
  rw [BitVec.toInt_eq_toNat_of_lt] <;> rw [BitVec.toNat_ofNat, Nat.mod_eq_of_lt (by omega)]
  omega

/-- Row numbers below 2048, as indices. -/
theorem wrap_row (k : Fin 2048) :
    Scalar.select (IntOp.cmpi .slt (BitVec.ofNat 32 k.val) 0#32) (IntOp.addi (BitVec.ofNat 32 k.val) 2048#32) (BitVec.ofNat 32 k.val) = BitVec.ofNat 32 k.val :=
  wrap_nat _ (lt_trans k.isLt (by decide)) _

/-- A row number is a row. -/
theorem sge_row (k : Fin 2048) : IntOp.andi (IntOp.cmpi .sge (BitVec.ofNat 32 k.val) 0#32) (IntOp.cmpi .sle (BitVec.ofNat 32 k.val) 2047#32) = 1#1 := by
  have hk := k.isLt
  have h1 : BitVec.sle 0#32 (BitVec.ofNat 32 k.val) = true := by
    rw [BitVec.sle_eq_decide, word_toInt _ (lt_trans hk (by decide)), decide_eq_true_iff]
    exact Int.natCast_nonneg _
  have h2 : BitVec.sle (BitVec.ofNat 32 k.val) 2047#32 = true := by
    rw [BitVec.sle_eq_decide, word_toInt _ (lt_trans hk (by decide)), decide_eq_true_iff]
    show (k.val : ℤ) ≤ 2047
    omega
  show BitVec.ofBool (BitVec.sle 0#32 (BitVec.ofNat 32 k.val)) &&& BitVec.ofBool (BitVec.sle (BitVec.ofNat 32 k.val) 2047#32) = 1#1
  rw [h1, h2]
  rfl

/-- A row number, read back. -/
theorem row_toInt (k : Fin 2048) : (BitVec.ofNat 32 k.val).toInt.toNat = k.val := by
  rw [word_toInt _ (lt_trans k.isLt (by decide)), Int.toNat_natCast]

section Operand

variable (x : FVec Ideal S12x2048x64 .f32) (σ : Fin 12 → Fin 64 → Equiv.Perm (Fin 2048)) (hσ : Ordered x σ)
include hσ

/-- The sort's row numbers. -/
theorem order_apply (h : Fin 12) (r : Fin 2048) (d : Fin 64) : order x (ix3 h r d) = BitVec.ofNat 32 (σ h d r).val := by
  have hal : ∀ k : Fin 2048, Shape.Idx.along (s := S12x2048x64) (ix3 h r d) (1 : Fin 3) k = ix3 h k d := fun k => by
    funext a
    match a with
    | 0 => rfl
    | 1 => rfl
    | 2 => rfl
  show iotaInDim S12x2048x64 32 1 (Shape.Idx.along (s := S12x2048x64) (ix3 h r d) (1 : Fin 3) (sortedFrom (fun k k' : Fin 2048 =>
    comparator_f32_i32_d1 (x (Shape.Idx.along (s := S12x2048x64) (ix3 h r d) (1 : Fin 3) k), iotaInDim S12x2048x64 32 1 (Shape.Idx.along (s := S12x2048x64) (ix3 h r d) (1 : Fin 3) k))
      (x (Shape.Idx.along (s := S12x2048x64) (ix3 h r d) (1 : Fin 3) k'), iotaInDim S12x2048x64 32 1 (Shape.Idx.along (s := S12x2048x64) (ix3 h r d) (1 : Fin 3) k')) == 1#1) r)) = _
  have hc : (fun k k' : Fin 2048 => comparator_f32_i32_d1 (F := Ideal) (x (Shape.Idx.along (s := S12x2048x64) (ix3 h r d) (1 : Fin 3) k), iotaInDim S12x2048x64 32 1 (Shape.Idx.along (s := S12x2048x64) (ix3 h r d) (1 : Fin 3) k))
      (x (Shape.Idx.along (s := S12x2048x64) (ix3 h r d) (1 : Fin 3) k'), iotaInDim S12x2048x64 32 1 (Shape.Idx.along (s := S12x2048x64) (ix3 h r d) (1 : Fin 3) k')) == 1#1)
      = fun k k' => decide ((x (ix3 h k d) : EReal) < x (ix3 h k' d)) := by
    funext k k'
    rw [hal, hal]
    exact comparator_eq _ _
  have hs : sortedFrom (fun k k' : Fin 2048 => decide ((x (ix3 h k d) : EReal) < x (ix3 h k' d))) r = σ h d r := by
    have := sortedFrom_eq (fun i : Fin 2048 => (x (ix3 h i d) : EReal)) (σ h d) (hσ h d) r
    convert this
  refine (congrArg (fun k : Fin 2048 => iotaInDim S12x2048x64 32 1 (Shape.Idx.along (s := S12x2048x64) (ix3 h r d) (1 : Fin 3) k))
    ((congrArg (fun f : Fin 2048 → Fin 2048 → Bool => sortedFrom f r) hc).trans hs)).trans ?_
  rw [hal]
  rfl

/-- The indices into the rows. -/
theorem rowsOf_apply (h : Fin 12) (r : Fin 2048) (d : Fin 64) (z : Fin 1) : rowsOf x (ix4 h r d z) = BitVec.ofNat 32 (σ h d r).val := by
  unfold rowsOf
  rw [cast_at _ _ _ (ix3 h r d) (by
    rw [rowMajor_val3 (ix3 h r d) 131072 64 rfl rfl, rowMajor_val4 (ix4 h r d z) 131072 64 1 rfl rfl rfl]
    have := z.isLt
    show h.val * 131072 + r.val * 64 + d.val = h.val * 131072 + r.val * 64 + d.val * 1 + z.val
    omega)]
  show Scalar.select (IntOp.cmpi .slt (order x (ix3 h r d)) 0#32) (IntOp.addi (order x (ix3 h r d)) 2048#32) (order x (ix3 h r d)) = _
  rw [order_apply x σ hσ]
  exact wrap_row _

/-- The values along a column's stable order. -/
theorem taken_apply (h : Fin 12) (r : Fin 2048) (d : Fin 64) : taken x (ix3 h r d) = x (ix3 h (σ h d r) d) := by
  unfold taken
  rw [ValueIdx.select_apply, reduce_andi_one _ _ _ _ _ rfl, ValueIdx.select_one]
  · refine congrArg x (funext fun a => Fin.ext ?_)
    have hi : GatherDims.siIdx gather_S12x2048x64_S12x2048x64x1_S12x2048x64_n_1_02_02_1_3_111 (ix3 h r d) ⟨0, by decide⟩ = ix4 h r d 0 := by
      funext b
      match b with
      | 0 => rfl
      | 1 => rfl
      | 2 => rfl
      | 3 => rfl
    match a with
    | 0 => exact (congrArg (· + 0) (Nat.zero_add h.val))
    | 1 =>
      show min (rowsOf x (GatherDims.siIdx gather_S12x2048x64_S12x2048x64x1_S12x2048x64_n_1_02_02_1_3_111 (ix3 h r d) ⟨0, _⟩)).toInt.toNat (2048 - 1) + 0 + 0 = (σ h d r).val
      rw [hi, rowsOf_apply x σ hσ, row_toInt]
      have := (σ h d r).isLt
      omega
    | 2 => exact (congrArg (· + 0) (Nat.zero_add d.val))
  · intro i
    obtain ⟨a, b, c, e, rfl⟩ : ∃ a b c e, i = ix4 a b c e := ⟨_, _, _, _, ValueIdx.eq_ix4 i⟩
    show IntOp.andi (IntOp.cmpi .sge (rowsOf x (ix4 a b c e)) 0#32) (IntOp.cmpi .sle (rowsOf x (ix4 a b c e)) 2047#32) = 1#1
    rw [rowsOf_apply x σ hσ]
    exact sge_row _

end Operand

/-! ## Both operands: where the updates land, and what they add -/

/-- An update's position in the result. -/
def place (q k : FVec Ideal S12x2048x64 .f32) : IVec S12x2048x64 32 :=
  addi (addi (broadcastInDim S12x2048x64 ![0, 1, 2] bcast_S12x1x1_S12x2048x64_0_1_2 (muli (broadcastInDim S12x1x1 ![0] bcast_S12_S12x1x1_0 (iotaInDim S12 32 0))
      (broadcastInDim S12x1x1 ![] bcast_S_S12x1x1 (constantI S_ 32 4194304#32))))
    (muli (order q) (broadcastInDim S12x2048x64 ![] bcast_S_S12x2048x64 (constantI S_ 32 2048#32)))) (order k)

/-- The updates' positions, one after another. -/
def places (q k : FVec Ideal S12x2048x64 .f32) : IVec S1572864x1 32 :=
  broadcastInDim S1572864x1 ![0] bcast_S1572864_S1572864x1_0 (select
    (cmpi .slt (shapeCast S1572864 (place q k) shapeCasts_S12x2048x64_S1572864) (broadcastInDim S1572864 ![] bcast_S_S1572864 (constantI S_ 32 0#32)))
    (addi (shapeCast S1572864 (place q k) shapeCasts_S12x2048x64_S1572864) (broadcastInDim S1572864 ![] bcast_S_S1572864 (constantI S_ 32 50331648#32)))
    (shapeCast S1572864 (place q k) shapeCasts_S12x2048x64_S1572864))

/-- The updates. -/
def adds (q k : FVec Ideal S12x2048x64 .f32) : FVec Ideal S1572864 .f32 :=
  shapeCast S1572864 (Host.exp (Host.negf (mulf (subf (taken q) (taken k)) (subf (taken q) (taken k))))) shapeCasts_S12x2048x64_S1572864

/-- The updates, added up. -/
def summed (q k : FVec Ideal S12x2048x64 .f32) : FVec Ideal S50331648 .f32 :=
  Host.scatterAdd scatter_S50331648_S1572864x1_S1572864_n_0_0_1 (broadcastInDim S50331648 ![] bcast_S_S50331648 (constant S_ .f32 0x00000000#32)) (places q k) (adds q k)

/-- An update's number. -/
def flat (h : Fin 12) (r : Fin 2048) (d : Fin 64) : Fin 1572864 := ⟨h.val * 131072 + r.val * 64 + d.val, by omega⟩

/-- Every update has a head, a row and a feature. -/
theorem exists_flat (n : Fin 1572864) : ∃ h r d, n = flat h r d :=
  ⟨⟨n.val / 131072, by omega⟩, ⟨n.val / 64 % 2048, by omega⟩, ⟨n.val % 64, by omega⟩, Fin.ext (by
    show n.val = n.val / 131072 * 131072 + n.val / 64 % 2048 * 64 + n.val % 64
    omega)⟩

/-- A reshape of updates, read at one. -/
theorem cast_flat {α : Type} (x : S12x2048x64.Idx → α) (h : Fin 12) (r : Fin 2048) (d : Fin 64) :
    shapeCast S1572864 x shapeCasts_S12x2048x64_S1572864 (ix1 (flat h r d)) = x (ix3 h r d) :=
  cast_at _ _ _ _ (by
    rw [rowMajor_val3 (ix3 h r d) 131072 64 rfl rfl, rowMajor_val1]
    rfl)

/-- Where an update lands. -/
theorem lands (idx : IVec S1572864x1 32) (n : Fin 1572864) (J : Fin 50331648) :
    ScatterDims.resultIdx? scatter_S50331648_S1572864x1_S1572864_n_0_0_1 (ix1 n) idx = some (ix1 J) ↔ (idx (ix2 n 0)).toInt = (J.val : ℤ) := by
  have hi : ScatterDims.siIdx scatter_S50331648_S1572864x1_S1572864_n_0_0_1 (ix1 n) ⟨0, by decide⟩ = ix2 n 0 := by
    funext b
    match b with
    | 0 => rfl
    | 1 => rfl
  have hs : ∀ a, ScatterDims.start scatter_S50331648_S1572864x1_S1572864_n_0_0_1 (ix1 n) idx a = (idx (ix2 n 0)).toInt := by
    intro a
    obtain rfl : a = 0 := Subsingleton.elim _ _
    exact congrArg (fun i => (idx i).toInt) hi
  have hw : ∀ a, ScatterDims.window scatter_S50331648_S1572864x1_S1572864_n_0_0_1 (ix1 n) a = 0 := by
    intro a
    obtain rfl : a = 0 := Subsingleton.elim _ _
    rfl
  have hJ := J.isLt
  unfold ScatterDims.resultIdx?
  simp only [hs, hw]
  constructor
  · intro e
    split at e
    · rename_i hb
      have := congrArg (fun f : S50331648.Idx => (f 0).val) (Option.some.inj e)
      have h2 := (hb 0).1
      simp only [ix1_0] at this
      omega
    · exact absurd e (by simp)
  · intro e
    rw [dif_pos (fun a => by
      obtain rfl : a = 0 := Subsingleton.elim _ _
      show 0 ≤ (idx (ix2 n 0)).toInt + ((0 : ℕ) : ℤ) ∧ (idx (ix2 n 0)).toInt + ((0 : ℕ) : ℤ) < ((50331648 : ℕ) : ℤ)
      omega)]
    congr 1
    funext a
    obtain rfl : a = 0 := Subsingleton.elim _ _
    apply Fin.ext
    show ((idx (ix2 n 0)).toInt + ((0 : ℕ) : ℤ)).toNat = J.val
    omega

/-- The exponential of the negated squared difference, at a position. -/
theorem exp_apply (a b : FVec Ideal S12x2048x64 .f32) (j : S12x2048x64.Idx) :
    (Host.exp (Host.negf (mulf (subf a b) (subf a b))) j : EReal) = Ideal.exp (-(((a j : EReal) - b j) * ((a j : EReal) - b j))) := rfl

/-- The scatter's sum, at a position. -/
theorem scatter_apply (idx : IVec S1572864x1 32) (upd : FVec Ideal S1572864 .f32) (J : S50331648.Idx) :
    (Host.scatterAdd scatter_S50331648_S1572864x1_S1572864_n_0_0_1 (broadcastInDim S50331648 ![] bcast_S_S50331648 (constant (F := Ideal) S_ .f32 0x00000000#32)) idx upd J : EReal) = 0
    + ∑ n ∈ Finset.univ.filter (fun n => ScatterDims.resultIdx? scatter_S50331648_S1572864x1_S1572864_n_0_0_1 n idx = some J), (upd n : EReal) := by
  have hz : (FloatOps.ofBits (F := Ideal) .f32 0x00000000#32 : EReal) = 0 := Ideal.ofBits_zero_f32
  exact congrArg (· + ∑ n ∈ Finset.univ.filter (fun n => ScatterDims.resultIdx? scatter_S50331648_S1572864x1_S1572864_n_0_0_1 n idx = some J), (upd n : EReal)) hz

section Both

attribute [local irreducible] taken order

variable (q k : FVec Ideal S12x2048x64 .f32) (σ τ : Fin 12 → Fin 64 → Equiv.Perm (Fin 2048)) (hσ : Ordered q σ) (hτ : Ordered k τ)
include hσ hτ

/-- An update's position. -/
theorem place_apply (h : Fin 12) (r : Fin 2048) (d : Fin 64) :
    place q k (ix3 h r d) = BitVec.ofNat 32 (h.val * 4194304 + (σ h d r).val * 2048 + (τ h d r).val) := by
  refine (congrArg₂ (fun a b : BitVec 32 => BitVec.ofNat 32 h.val * 4194304#32 + a * 2048#32 + b) (order_apply q σ hσ h r d) (order_apply k τ hτ h r d)).trans ?_
  rw [← BitVec.ofNat_mul, ← BitVec.ofNat_mul, ← BitVec.ofNat_add, ← BitVec.ofNat_add]

/-- An update's position, read as an integer. -/
theorem places_apply (h : Fin 12) (r : Fin 2048) (d : Fin 64) :
    (places q k (ix2 (flat h r d) 0)).toInt = ((h.val * 4194304 + (σ h d r).val * 2048 + (τ h d r).val : ℕ) : ℤ) := by
  have e : places q k (ix2 (flat h r d) 0) = Scalar.select (IntOp.cmpi .slt (shapeCast S1572864 (place q k) shapeCasts_S12x2048x64_S1572864 (ix1 (flat h r d))) 0#32)
      (IntOp.addi (shapeCast S1572864 (place q k) shapeCasts_S12x2048x64_S1572864 (ix1 (flat h r d))) 50331648#32)
      (shapeCast S1572864 (place q k) shapeCasts_S12x2048x64_S1572864 (ix1 (flat h r d))) := rfl
  have h1 := h.isLt
  have h2 := (σ h d r).isLt
  have h3 := (τ h d r).isLt
  rw [e, cast_flat, place_apply q k σ τ hσ hτ, wrap_nat _ (by omega), word_toInt _ (by omega)]

/-- An update. -/
theorem adds_apply (h : Fin 12) (r : Fin 2048) (d : Fin 64) :
    (adds q k (ix1 (flat h r d)) : EReal) = Ideal.exp (-(((q (ix3 h (σ h d r) d) : EReal) - k (ix3 h (τ h d r) d)) * ((q (ix3 h (σ h d r) d) : EReal) - k (ix3 h (τ h d r) d)))) := by
  unfold adds
  rw [cast_flat]
  refine (exp_apply _ _ _).trans ?_
  rw [taken_apply q σ hσ, taken_apply k τ hτ]

/-- What lands on a position: for each feature whose orders bring the row and the column together, its update. -/
theorem summed_apply (h : Fin 12) (i j : Fin 2048) (J : Fin 50331648) (hJ : J.val = h.val * 4194304 + i.val * 2048 + j.val) :
    (summed q k (ix1 J) : EReal) = 0 + ∑ d ∈ Finset.univ.filter (fun d => τ h d ((σ h d).symm i) = j),
      Ideal.exp (-(((q (ix3 h i d) : EReal) - k (ix3 h j d)) * ((q (ix3 h i d) : EReal) - k (ix3 h j d)))) := by
  refine (scatter_apply (places q k) (adds q k) (ix1 J)).trans ?_
  refine congrArg ((0 : EReal) + ·) (Eq.symm ?_)
  refine Finset.sum_bij (fun d _ => ix1 (flat h ((σ h d).symm i) d)) (fun d hd => ?_) (fun a _ b _ eq => ?_) (fun n hn => ?_) (fun d hd => ?_)
  · rw [Finset.mem_filter] at hd ⊢
    refine ⟨Finset.mem_univ _, (lands _ _ _).mpr ?_⟩
    rw [places_apply q k σ τ hσ hτ, Equiv.apply_symm_apply, hd.2, hJ]
  · have := congrArg (fun f : S1572864.Idx => (f 0).val) eq
    simp only [ix1_0, flat] at this
    omega
  · obtain ⟨n, rfl⟩ : ∃ m, n = ix1 m := ⟨_, ValueIdx.eq_ix1 n⟩
    obtain ⟨h', r, d, rfl⟩ := exists_flat n
    rw [Finset.mem_filter, lands, places_apply q k σ τ hσ hτ, hJ] at hn
    have h2 := (σ h' d r).isLt
    have h3 := (τ h' d r).isLt
    have h4 := hn.2
    obtain rfl : h' = h := Fin.ext (by omega)
    have e1 : σ h' d r = i := Fin.ext (by omega)
    have e2 : τ h' d r = j := Fin.ext (by omega)
    have e3 : (σ h' d).symm i = r := by rw [← e1, Equiv.symm_apply_apply]
    exact ⟨d, Finset.mem_filter.mpr ⟨Finset.mem_univ _, by rw [e3, e2]⟩, by rw [e3]⟩
  · rw [Finset.mem_filter] at hd
    rw [adds_apply q k σ τ hσ hτ, Equiv.apply_symm_apply, hd.2]

end Both

/-! ## The result -/

/-- The reference's result from its arguments. -/
def result (q k : FVec Ideal S1x12x2048x64 .f32) (b : IVec S1x12x2048x2048 1) : FVec Ideal S1x12x2048x2048 .f32 :=
  shapeCast S1x12x2048x2048 (select (shapeCast S12x2048x2048 b shapeCasts_S1x12x2048x2048_S12x2048x2048)
    (broadcastInDim S12x2048x2048 ![] bcast_S_S12x2048x2048 (constant S_ .f32 0x00000000#32))
    (Host.divf (shapeCast S12x2048x2048 (summed (shapeCast S12x2048x64 q shapeCasts_S1x12x2048x64_S12x2048x64) (shapeCast S12x2048x64 k shapeCasts_S1x12x2048x64_S12x2048x64)) shapeCasts_S50331648_S12x2048x2048)
      (broadcastInDim S12x2048x2048 ![] bcast_S_S12x2048x2048 (constant S_ .f32 0x42800000#32)))) shapeCasts_S12x2048x2048_S1x12x2048x2048

/-- The run's result is that. -/
theorem res_eq (m : (ℓ : Loc nD τ sig) → Buf (Elt Ideal) ℓ) (c : Dev nD) :
    Cert.ReferenceIdeal.Value.res_main_v34 (F := Ideal) m c = result (m ((c.tc : Thread nD τ).loc main_arg0)) (m ((c.tc : Thread nD τ).loc main_arg1)) (m ((c.tc : Thread nD τ).loc main_arg2)) := rfl

/-- The pattern of sixty-four. -/
theorem ofBits_64 : (FloatOps.ofBits (F := Ideal) .f32 0x42800000#32 : EReal) = ((64 : ℝ) : EReal) := by
  show Ideal.ofBits .f32 0x42800000#32 = _
  simp [Ideal.ofBits, Ideal.ieee, -EReal.coe_mul]
  norm_num

end Cert.Proof.RefVal

end
-- ==== Proof.Equal.lean ====
/-
  The kernel's result and the reference's are the same function of the arguments over the extended reals: both add, for
  every position that the mask leaves, one exponential for each feature whose two stable orders bring the position's row
  and column together; the kernel scales each by a sixty-fourth, the reference divides their sum by sixty-four.
-/
module

public import proofs.«01_k».proof.Proof.KerVal
public import proofs.«01_k».proof.Proof.RefVal

@[expose] public section

noncomputable section

namespace Cert.Proof.Equal

open Cert.Proof.Rank
open Idealize.ShloMosaic Idealize.ShloMosaic.Pointwise
open Cert.KernelIdeal (S1x12x2048x64 S12x2048x64 S1x12x2048x2048 S12x2048x2048 S50331648)

/-- The pattern of a sixty-fourth. -/
theorem ofBits_inv_64 : (FloatOps.ofBits (F := Ideal) .f32 0x3C800000#32 : EReal) = ((64⁻¹ : ℝ) : EReal) := by
  show Ideal.ofBits .f32 0x3C800000#32 = _
  simp [Ideal.ofBits, Ideal.ieee, -EReal.coe_mul]
  norm_num

/-- The kernel's value is the reference's, scaled. -/
theorem weight_eq (y : EReal) : KerVal.weight y = ((64⁻¹ : ℝ) : EReal) * Ideal.exp (-(y * y)) := by
  unfold KerVal.weight
  rw [ofBits_inv_64, zero_sub, EReal.neg_mul, mul_comm]

/-- Division by sixty-four. -/
theorem div_64 (x : EReal) : Ideal.div x (FloatOps.ofBits (F := Ideal) .f32 0x42800000#32 : EReal) = ((64⁻¹ : ℝ) : EReal) * x := by
  rw [RefVal.ofBits_64]
  unfold Ideal.div
  rw [if_neg (by norm_num), ← EReal.coe_inv, mul_comm]

/-- A scaled sum is the sum of the scaled. -/
theorem scale_sum {ι : Type} [DecidableEq ι] (s : Finset ι) (f : ι → EReal) :
    ∑ d ∈ s, ((64⁻¹ : ℝ) : EReal) * f d = ((64⁻¹ : ℝ) : EReal) * (0 + ∑ d ∈ s, f d) := by
  rw [zero_add]
  induction s using Finset.induction_on with
  | empty => simp
  | insert a s ha ih =>
    rw [Finset.sum_insert ha, Finset.sum_insert ha, ih,
      EReal.left_distrib_of_nonneg_of_ne_top (EReal.coe_nonneg.mpr (by norm_num)) (EReal.coe_ne_top _)]

/-- The reference's result at a position. -/
theorem ref_at (q k : FVec Ideal S1x12x2048x64 .f32) (b : IVec S1x12x2048x2048 1) (σ τ : Fin 12 → Fin 64 → Equiv.Perm (Fin 2048))
    (hσ : RefVal.Ordered (KerVal.heads q) σ) (hτ : RefVal.Ordered (KerVal.heads k) τ) (z : Fin 1) (h : Fin 12) (i j : Fin 2048) :
    (RefVal.result q k b (ix4 z h i j) : EReal) = Scalar.select (shapeCast S12x2048x2048 b Cert.KernelIdeal.Gen.shapeCasts_S1x12x2048x2048_S12x2048x2048 (ix3 h i j)) (0 : EReal)
      (((64⁻¹ : ℝ) : EReal) * (0 + ∑ d ∈ Finset.univ.filter (fun d => τ h d ((σ h d).symm i) = j),
        Ideal.exp (-(((KerVal.heads q (ix3 h i d) : EReal) - KerVal.heads k (ix3 h j d)) * ((KerVal.heads q (ix3 h i d) : EReal) - KerVal.heads k (ix3 h j d)))))) := by
  have h1 := h.isLt
  have h2 := i.isLt
  have h3 := j.isLt
  obtain ⟨J, hJ⟩ : ∃ J : Fin 50331648, J.val = h.val * 4194304 + i.val * 2048 + j.val := ⟨⟨_, by omega⟩, rfl⟩
  unfold RefVal.result
  refine (RefVal.cast_at _ _ _ (ix3 h i j) ?_).trans ?_
  · have hz : z.val = 0 := by omega
    rw [rowMajor_val4 _ 50331648 4194304 2048 rfl rfl rfl, rowMajor_val3 _ 4194304 2048 rfl rfl]
    show h.val * 4194304 + i.val * 2048 + j.val = z.val * 50331648 + h.val * 4194304 + i.val * 2048 + j.val
    rw [hz, zero_mul, zero_add]
  refine congrArg₂ (Scalar.select _) Ideal.ofBits_zero_f32 ((div_64 _).trans ?_)
  refine congrArg (((64⁻¹ : ℝ) : EReal) * ·) ((RefVal.cast_at _ _ _ (ix1 J) ?_).trans (RefVal.summed_apply _ _ σ τ hσ hτ h i j J hJ))
  rw [rowMajor_val1, rowMajor_val3 _ 4194304 2048 rfl rfl]
  exact hJ

/-- The two results are equal. -/
theorem result_eq (q k : FVec Ideal S1x12x2048x64 .f32) (b : IVec S1x12x2048x2048 1) :
    Host.result (F := Ideal) q k b = RefVal.result q k b := by
  have key : ∀ (h : Fin 12) (d : Fin 64), ∃ σ τ : Equiv.Perm (Fin 2048),
      (Monotone fun r => Rank.key (fun i : Fin 2048 => (KerVal.heads q (ix3 h i d) : EReal)) (σ r))
      ∧ (Monotone fun r => Rank.key (fun i : Fin 2048 => (KerVal.heads k (ix3 h i d) : EReal)) (τ r))
      ∧ ∀ i : Fin 2048, (TcVal.sorted (F := Ideal) (TcOut.headIn (F := Ideal) (Host.inX q k) h)).1 (ix2 i ⟨64 + d.val, by omega⟩) = BitVec.ofNat 32 (τ (σ.symm i)).val
        ∧ ((TcVal.sorted (F := Ideal) (TcOut.headIn (F := Ideal) (Host.inX q k) h)).2 (ix2 i d) : EReal)
          = KerVal.weight ((KerVal.heads q (ix3 h i d) : EReal) - KerVal.heads k (ix3 h (τ (σ.symm i)) d)) := fun h d => by
    obtain ⟨σ, τ, h1, h2, h3⟩ := KerVal.sorted_at (TcOut.headIn (F := Ideal) (Host.inX q k) h) d
    have hl : ∀ i : Fin 2048, TcOut.headIn (F := Ideal) (Host.inX q k) h (ix2 i ⟨d.val, by omega⟩) = KerVal.heads q (ix3 h i d) := fun i => KerVal.headIn_left q k h i d
    have hr : ∀ i : Fin 2048, TcOut.headIn (F := Ideal) (Host.inX q k) h (ix2 i ⟨64 + d.val, by omega⟩) = KerVal.heads k (ix3 h i d) := fun i => KerVal.headIn_right q k h i d
    refine ⟨σ, τ, ?_, ?_, fun i => ⟨(h3 i).1, (h3 i).2.trans ?_⟩⟩
    · have e : (fun r : Fin 2048 => Rank.key (fun i : Fin 2048 => (KerVal.heads q (ix3 h i d) : EReal)) (σ r))
          = fun r : Fin 2048 => toLex ((TcOut.headIn (F := Ideal) (Host.inX q k) h (ix2 (σ r) ⟨d.val, by omega⟩) : EReal), σ r) :=
        funext fun r => congrArg (fun v : EReal => toLex (v, σ r)) (hl (σ r)).symm
      rw [e]
      exact h1
    · have e : (fun r : Fin 2048 => Rank.key (fun i : Fin 2048 => (KerVal.heads k (ix3 h i d) : EReal)) (τ r))
          = fun r : Fin 2048 => toLex ((TcOut.headIn (F := Ideal) (Host.inX q k) h (ix2 (τ r) ⟨64 + d.val, by omega⟩) : EReal), τ r) :=
        funext fun r => congrArg (fun v : EReal => toLex (v, τ r)) (hr (τ r)).symm
      rw [e]
      exact h2
    · exact congrArg₂ (fun a b : EReal => KerVal.weight (a - b)) (hl i) (hr _)
  choose σ τ hσ hτ hs using key
  funext J
  obtain ⟨z, h, i, j, rfl⟩ : ∃ z h i j, J = ix4 z h i j := ⟨_, _, _, _, ValueIdx.eq_ix4 J⟩
  refine (KerVal.result_at q k b (fun h d i => τ h d ((σ h d).symm i)) (fun h d i => (hs h d i).1) (fun h d i => (hs h d i).2) z h i j).trans ?_
  refine Eq.trans ?_ (ref_at q k b σ τ hσ hτ z h i j).symm
  generalize shapeCast S12x2048x2048 b Cert.KernelIdeal.Gen.shapeCasts_S1x12x2048x2048_S12x2048x2048 (ix3 h i j) = w
  obtain rfl | rfl : w = 0#1 ∨ w = 1#1 := (by decide : ∀ w : BitVec 1, w = 0#1 ∨ w = 1#1) w
  · rw [if_pos rfl, ValueIdx.select_zero, ← scale_sum]
    refine Finset.sum_congr (by congr) fun d _ => weight_eq _
  · rw [if_neg (by decide), ValueIdx.select_one]

end Cert.Proof.Equal

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Equal
public import Idealize.ShloMosaic.Adequacy
public import Idealize.ShloMosaic.Init

@[expose] public section

noncomputable section

namespace Cert.Proof

open Idealize.ShloMosaic Idealize.SL.Sem

/-- What the run of the whole program says of the three arguments on a device: each holds what it held at the start. -/
theorem args_kept {F : FTy → Type} [FloatOps F] (m : (ℓ : Loc Cert.KernelIdeal.nD Cert.KernelIdeal.τ Cert.KernelIdeal.sig) → Buf (Elt F) ℓ)
    {r : PUnit × MemSt Cert.KernelIdeal.nD Cert.KernelIdeal.τ Cert.KernelIdeal.sig (Elt F)} (h : Launch.QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  ⟨(h.1 c (Host.rf Cert.KernelIdeal.main_arg0) (by decide)).trans (Host.V5_arg m c _ (.inl rfl)),
   (h.1 c (Host.rf Cert.KernelIdeal.main_arg1) (by decide)).trans (Host.V5_arg m c _ (.inr (.inl rfl))),
   (h.1 c (Host.rf Cert.KernelIdeal.main_arg2) (by decide)).trans (Host.V5_arg m c _ (.inr (.inr rfl)))⟩

/-- The kernel read with exact floats runs, leaves its arguments as they were, and ends with every counter at zero. -/
theorem frame_ideal : Cert.quiescent_KernelIdeal := fun m ρ _ =>
  (θ_run Cert.KernelIdeal.defs _ _).mono (fun _ h => ⟨args_kept m h, h.2⟩) (Launch.run_main (F := Ideal) m ρ)

/-- The two printings of the kernel name the same bodies. -/
theorem same_bodies : Cert.Kernel.defs₀ (F := Bits) = Cert.KernelIdeal.defs₀ (F := Bits) := by
  funext κ ℓ a
  cases κ with
  | tc =>
    match ℓ, a with
    | 0, (t, s) => rfl
    | 1, a => rfl
  | scScalar c =>
    match ℓ, a with
    | 0, (t, s) => rfl
    | 1, a => rfl
  | scVector c u =>
    match ℓ, a with
    | 0, (t, s) => rfl
    | 1, a => rfl

/-- So they name the same calls. -/
theorem same_defs : Cert.Kernel.defs (F := Bits) = Cert.KernelIdeal.defs (F := Bits) :=
  congrArg (fun d => (Cert.KernelIdeal.sc (F := Bits)).defs (Pipeline.defs (Cert.KernelIdeal.pcfgs (F := Bits)) d)) same_bodies

/-- The kernel as printed runs, leaves its arguments as they were, and ends with every counter at zero: it is the same
    text, so the run at words is the same run. -/
theorem frame_kernel : Cert.quiescent_Kernel := by
  intro m ρ _
  rw [same_defs]
  exact (θ_run (Cert.KernelIdeal.defs (F := Bits)) (Cert.KernelIdeal.threads (F := Bits)) ⟨m, fun _ => 0, ρ⟩).mono
    (fun _ h => ⟨args_kept (F := Bits) m h, h.2⟩) (Launch.run_main (F := Bits) m ρ)

/-- The reference runs, leaves its arguments as they were, and has no counters to leave away from zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel read with exact floats leaves the result that the reference leaves. -/
theorem algebraic : Cert.algebraic_KernelIdeal_ReferenceIdeal := fun m ρ m' ρ' _ hargs =>
  ⟨fun c => Host.result (F := Ideal) (Host.arg0 m c) (Host.arg1 m c) (Host.arg2 m c),
   (θ_run Cert.KernelIdeal.defs _ _).mono
     (fun _ h c => ⟨(h.1 c (Host.rf Cert.KernelIdeal.main_v24) (by decide)).trans (Host.V5_result m c), args_kept m h c⟩)
     (Launch.run_main (F := Ideal) m ρ),
   (θ_run Cert.ReferenceIdeal.defs _ _).mono
     (fun _ h c => ⟨(h c).1.trans ((RefVal.res_eq m' c).trans (by
       rw [(hargs c).1, (hargs c).2.1, (hargs c).2.2]
       exact (Equal.result_eq _ _ _).symm)), (h c).2⟩)
     (Cert.ReferenceIdeal.Value.run (F := Ideal) m' ρ')⟩

/-- Every claim of this directory. -/
theorem claim : Cert.Claim :=
  ⟨Cert.Kernel.Gen.facts, Cert.KernelIdeal.Gen.facts, Cert.ReferenceIdeal.Gen.facts, frame_kernel, frame_ideal, frame_reference, trivial, algebraic⟩

end Cert.Proof

end
